-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x2 : Shape := ⟨3, ![16, 2048, 2]⟩
abbrev S128 : Shape := ⟨1, ![128]⟩
abbrev S128x128 : Shape := ⟨2, ![128, 128]⟩
abbrev S16x2048x1 : Shape := ⟨3, ![16, 2048, 1]⟩
abbrev S16x2048 : Shape := ⟨2, ![16, 2048]⟩
abbrev S16x128 : Shape := ⟨2, ![16, 128]⟩
abbrev S912 : Shape := ⟨1, ![912]⟩
abbrev S64 : Shape := ⟨1, ![64]⟩
abbrev S_ : Shape := ⟨0, ![]⟩
abbrev S896 : Shape := ⟨1, ![896]⟩
abbrev S1x896 : Shape := ⟨2, ![1, 896]⟩
abbrev S16 : Shape := ⟨1, ![16]⟩
abbrev S1 : Shape := ⟨1, ![1]⟩
abbrev S1x64 : Shape := ⟨2, ![1, 64]⟩
abbrev S16x8x1 : Shape := ⟨3, ![16, 8, 1]⟩
abbrev S16x8x128 : Shape := ⟨3, ![16, 8, 128]⟩
abbrev S8x2048 : Shape := ⟨2, ![8, 2048]⟩
abbrev S8x128 : Shape := ⟨2, ![8, 128]⟩
abbrev S1x8x128 : Shape := ⟨3, ![1, 8, 128]⟩
abbrev S1x128 : Shape := ⟨2, ![1, 128]⟩
abbrev S8 : Shape := ⟨1, ![8]⟩

abbrev nBuf : Table → Nat
  | .hbm => 14
  | .local .tc .vmem => 12
  | .local .scVector .vmem => 4
  | _ => 0

abbrev bufTy : (tb : Table) → Fin (nBuf tb) → BufTy
  | .hbm, ⟨0, _⟩ => ⟨S16x2048x2, .f32⟩
  | .hbm, ⟨1, _⟩ => ⟨S128, .f32⟩
  | .hbm, ⟨2, _⟩ => ⟨S128x128, .f32⟩
  | .hbm, ⟨3, _⟩ => ⟨S128, .f32⟩
  | .hbm, ⟨4, _⟩ => ⟨S16x2048x1, .f32⟩
  | .hbm, ⟨5, _⟩ => ⟨S16x2048, .f32⟩
  | .hbm, ⟨6, _⟩ => ⟨S16x2048x1, .f32⟩
  | .hbm, ⟨7, _⟩ => ⟨S16x2048, .f32⟩
  | .hbm, ⟨8, _⟩ => ⟨S16x128, .f32⟩
  | .hbm, ⟨9, _⟩ => ⟨S16x8x1, .f32⟩
  | .hbm, ⟨10, _⟩ => ⟨S16x8x128, .f32⟩
  | .hbm, ⟨11, _⟩ => ⟨S16x128, .f32⟩
  | .hbm, ⟨12, _⟩ => ⟨S1x128, .f32⟩
  | .hbm, ⟨13, _⟩ => ⟨S16x128, .f32⟩
  | .local .tc .vmem, ⟨0, _⟩ => ⟨S8x2048, .f32⟩
  | .local .tc .vmem, ⟨1, _⟩ => ⟨S8x2048, .f32⟩
  | .local .tc .vmem, ⟨2, _⟩ => ⟨S8x2048, .f32⟩
  | .local .tc .vmem, ⟨3, _⟩ => ⟨S8x2048, .f32⟩
  | .local .tc .vmem, ⟨4, _⟩ => ⟨S16x8x128, .f32⟩
  | .local .tc .vmem, ⟨5, _⟩ => ⟨S8x128, .f32⟩
  | .local .tc .vmem, ⟨6, _⟩ => ⟨S8x128, .f32⟩
  | .local .tc .vmem, ⟨7, _⟩ => ⟨S16x128, .f32⟩
  | .local .tc .vmem, ⟨8, _⟩ => ⟨S16x128, .f32⟩
  | .local .tc .vmem, ⟨9, _⟩ => ⟨S128x128, .f32⟩
  | .local .tc .vmem, ⟨10, _⟩ => ⟨S1x128, .f32⟩
  | .local .tc .vmem, ⟨11, _⟩ => ⟨S16x128, .f32⟩
  | .local .scVector .vmem, ⟨0, _⟩ => ⟨S912, .f32⟩
  | .local .scVector .vmem, ⟨1, _⟩ => ⟨S912, .f32⟩
  | .local .scVector .vmem, ⟨2, _⟩ => ⟨S64, .f32⟩
  | .local .scVector .vmem, ⟨3, _⟩ => ⟨S64, .f32⟩
  | _, _ => ⟨S16x2048x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v1_scv : Ref sig .scVector := ⟨.hbm, 5, rfl⟩
abbrev main_v3_scv : Ref sig .scVector := ⟨.hbm, 7, rfl⟩
abbrev main_arg1_scv : Ref sig .scVector := ⟨.hbm, 1, rfl⟩
abbrev main_v4_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c8_i32 : BitVec 32 := 8#32
  let arg0 : BitVec 32 := BitVec.ofNat 32 (i 0).val
  let v0 : BitVec 32 := Scalar.muli c8_i32 arg0
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c0_i32_22_r0 : BitVec 32 := 0#32
  ![v18.toNat, 0]
def k0_off2 (i : grid0.Coords) : Fin 1 → Nat :=
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v29 : BitVec 32 := Scalar.muli v28 c64_i32
  ![v29.toNat]
@[reducible] def k0_t1_loop : Scf.Loop 32 :=
  let c0_i32_13 : BitVec 32 := 0#32
  let c112_i32 : BitVec 32 := 112#32
  let v42 : BitVec 32 := Scalar.addi c0_i32_13 c112_i32
  let c1_i32_14 : BitVec 32 := 1#32
  ⟨c0_i32_13, v42, c1_i32_14⟩
def k0_off3 (k0_t1 : Fin k0_t1_loop.trips) : Fin 1 → Nat :=
  let c0_i32_13 : BitVec 32 := 0#32
  let c1_i32_14 : BitVec 32 := 1#32
  let arg10 : BitVec 32 := Scf.iv c0_i32_13 c1_i32_14 k0_t1
  let c8_i32_21 : BitVec 32 := 8#32
  let v57 : BitVec 32 := Scalar.muli arg10 c8_i32_21
  let v58 : Index := Scalar.indexCast v57
  ![v58.toNat]
def k0_off4 (i : grid0.Coords) : Fin 2 → Nat :=
  let c8_i32 : BitVec 32 := 8#32
  let arg0 : BitVec 32 := BitVec.ofNat 32 (i 0).val
  let v0 : BitVec 32 := Scalar.muli c8_i32 arg0
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32_20 : BitVec 32 := 64#32
  let v56 : BitVec 32 := Scalar.muli v28 c64_i32_20
  ![v18.toNat, v56.toNat]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S16x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2048x2 : Shape := ⟨3, ![16, 2048, 2]⟩
abbrev S128 : Shape := ⟨1, ![128]⟩
abbrev S128x128 : Shape := ⟨2, ![128, 128]⟩
abbrev S16x2048x1 : Shape := ⟨3, ![16, 2048, 1]⟩
abbrev S16x2048 : Shape := ⟨2, ![16, 2048]⟩
abbrev S1x1x128 : Shape := ⟨3, ![1, 1, 128]⟩
abbrev S16x2048x128 : Shape := ⟨3, ![16, 2048, 128]⟩
abbrev S_ : Shape := ⟨0, ![]⟩
abbrev S16x128 : Shape := ⟨2, ![16, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x2, .f32⟩
  | .hbm, ⟨1, _⟩ => ⟨S128, .f32⟩
  | .hbm, ⟨2, _⟩ => ⟨S128x128, .f32⟩
  | .hbm, ⟨3, _⟩ => ⟨S128, .f32⟩
  | .hbm, ⟨4, _⟩ => ⟨S16x2048x1, .f32⟩
  | .hbm, ⟨5, _⟩ => ⟨S16x2048, .f32⟩
  | .hbm, ⟨6, _⟩ => ⟨S16x2048x1, .f32⟩
  | .hbm, ⟨7, _⟩ => ⟨S16x2048x1, .f32⟩
  | .hbm, ⟨8, _⟩ => ⟨S16x2048, .f32⟩
  | .hbm, ⟨9, _⟩ => ⟨S16x2048x1, .f32⟩
  | .hbm, ⟨10, _⟩ => ⟨S1x1x128, .f32⟩
  | .hbm, ⟨11, _⟩ => ⟨S16x2048x128, .f32⟩
  | .hbm, ⟨12, _⟩ => ⟨S16x2048x128, .f32⟩
  | .hbm, ⟨13, _⟩ => ⟨S16x2048x128, .f32⟩
  | .hbm, ⟨14, _⟩ => ⟨S1x1x128, .f32⟩
  | .hbm, ⟨15, _⟩ => ⟨S16x2048x128, .f32⟩
  | .hbm, ⟨16, _⟩ => ⟨S16x2048x128, .f32⟩
  | .hbm, ⟨17, _⟩ => ⟨S16x2048x128, .f32⟩
  | .hbm, ⟨18, _⟩ => ⟨S16x2048x128, .f32⟩
  | .hbm, ⟨19, _⟩ => ⟨S_, .f32⟩
  | .hbm, ⟨20, _⟩ => ⟨S16x2048x128, .f32⟩
  | .hbm, ⟨21, _⟩ => ⟨S16x2048x128, .f32⟩
  | .hbm, ⟨22, _⟩ => ⟨S_, .f32⟩
  | .hbm, ⟨23, _⟩ => ⟨S16x128, .f32⟩
  | .hbm, ⟨24, _⟩ => ⟨S128x128, .f32⟩
  | .hbm, ⟨25, _⟩ => ⟨S16x128, .f32⟩
  | .hbm, ⟨26, _⟩ => ⟨S1x128, .f32⟩
  | .hbm, ⟨27, _⟩ => ⟨S16x128, .f32⟩
  | .hbm, ⟨28, _⟩ => ⟨S16x128, .f32⟩
  | .hbm, ⟨29, _⟩ => ⟨S_, .f32⟩
  | .hbm, ⟨30, _⟩ => ⟨S16x128, .f32⟩
  | .hbm, ⟨31, _⟩ => ⟨S16x128, .f32⟩
  | _, _ => ⟨S16x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_cst : Ref sig .tc := ⟨.hbm, 19, rfl⟩
abbrev main_call0_v0 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call1_cst : Ref sig .tc := ⟨.hbm, 29, rfl⟩
abbrev main_call1_v0 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Common.lean ====
/-
  The launch of the SparseCore call: the call's configuration, the resource algebra of the run, and the values the pooling
  kernels compute, at any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.ValueIdxCore
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the local copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The two rightmost components, -/
abbrev ER : Emb (UP × Counters) (MT nD τ sig (HIx 1) (Elt F) ℕ UU ℕ) := embR
/-- and the staging cells' rounds in them. -/
def EP : Emb UP (MT nD τ sig (HIx 1) (Elt F) ℕ UU ℕ) := (Emb.inl : Emb UP (UP × Counters)).trans ER

instance EP_landsIn : (EP : Emb UP 𝕄).LandsIn (upEmb : UEmb _ 𝕄) := by unfold EP; infer_instance

/-! ## The values -/

section Values

variable [FloatOps F]

/-- A point's tent at one sample position: the smaller of `t - x` and `y - t`, no less than zero. -/
def phi (t x y : F .f32) : F .f32 :=
  FloatOps.maximumf (FloatOps.minimumf (FloatOps.subf t x) (FloatOps.subf y t)) (FloatOps.ofBits .f32 0x00000000#32)

/-- The running sum of the tents of points `0 … n - 1`, added one after another. -/
def accAt (x y : ℕ → F .f32) (t : F .f32) : ℕ → F .f32
  | 0 => FloatOps.ofBits .f32 0x00000000#32
  | n + 1 => FloatOps.addf (accAt x y t n) (phi t (x n) (y n))

theorem accAt_succ (x y : ℕ → F .f32) (t : F .f32) (n : ℕ) : accAt x y t (n + 1) = FloatOps.addf (accAt x y t n) (phi t (x n) (y n)) := rfl

theorem accAt_congr {x x' y y' : ℕ → F .f32} (t : F .f32) (n : ℕ) (hx : ∀ k < n, x k = x' k) (hy : ∀ k < n, y k = y' k) :
    accAt x y t n = accAt x' y' t n := by
  induction n with
  | zero => rfl
  | succ n ih =>
    rw [accAt_succ, accAt_succ, ih (fun k hk => hx k (Nat.lt_succ_of_lt hk)) (fun k hk => hy k (Nat.lt_succ_of_lt hk)),
      hx n (Nat.lt_succ_self n), hy n (Nat.lt_succ_self n)]

/-- Entry `(b, n)` of an array of 16 rows of 2048, zero's bits' reading off the array. -/
def rowAt (X : S16x2048.Idx → F .f32) (b n : ℕ) : F .f32 :=
  if h : b < 16 ∧ n < 2048 then X (ix2 ⟨b, h.1⟩ ⟨n, h.2⟩) else FloatOps.ofBits .f32 0x00000000#32

/-- What the SparseCores pool: per batch row and sample position the tents of the first 896 points. -/
def scOut (X Y : S16x2048.Idx → F .f32) (t : S128.Idx → F .f32) : S16x128.Idx → F .f32 :=
  fun j => accAt (rowAt X (j 0).val) (rowAt Y (j 0).val) (t (ix1 (j 1))) 896

end Values

end Cert.Proof

end
-- ==== Proof.Tile.lean ====
/-
  One vector subcore's task of the SparseCore call, at a symbolic core and subcore: two rows fetched, half of the sample
  positions fetched, the tents of 896 points summed in four registers, the sums written out.
-/
module

public import proofs.«01_k».proof.Proof.Common

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

-- the kernel's memrefs as the body table passes them
local notation "xW" => (Memref.whole Cert.KernelIdeal.main_v1_scv : Memref Cert.KernelIdeal.sig Kind.scVector Space.hbm Cert.KernelIdeal.S16x2048 EltTy.f32)
local notation "yW" => (Memref.whole Cert.KernelIdeal.main_v3_scv : Memref Cert.KernelIdeal.sig Kind.scVector Space.hbm Cert.KernelIdeal.S16x2048 EltTy.f32)
local notation "tW" => (Memref.whole Cert.KernelIdeal.main_arg1_scv : Memref Cert.KernelIdeal.sig Kind.scVector Space.hbm Cert.KernelIdeal.S128 EltTy.f32)
local notation "oW" => (Memref.whole Cert.KernelIdeal.main_v4_scv : Memref Cert.KernelIdeal.sig Kind.scVector Space.hbm Cert.KernelIdeal.S16x128 EltTy.f32)
local notation "s0W" => (Memref.whole Cert.KernelIdeal.cc0_scratch0 : Memref Cert.KernelIdeal.sig Kind.scVector Space.vmem Cert.KernelIdeal.S912 EltTy.f32)
local notation "s1W" => (Memref.whole Cert.KernelIdeal.cc0_scratch1 : Memref Cert.KernelIdeal.sig Kind.scVector Space.vmem Cert.KernelIdeal.S912 EltTy.f32)
local notation "s2W" => (Memref.whole Cert.KernelIdeal.cc0_scratch2 : Memref Cert.KernelIdeal.sig Kind.scVector Space.vmem Cert.KernelIdeal.S64 EltTy.f32)
local notation "s3W" => (Memref.whole Cert.KernelIdeal.cc0_scratch3 : Memref Cert.KernelIdeal.sig Kind.scVector Space.vmem Cert.KernelIdeal.S64 EltTy.f32)

/-- The arrays of the call as the TensorCore names them. -/
abbrev xLoc (d : Dev nD) : Loc nD τ sig := (SparseCore.T d).loc main_v1
abbrev yLoc (d : Dev nD) : Loc nD τ sig := (SparseCore.T d).loc main_v3
abbrev tLoc (d : Dev nD) : Loc nD τ sig := (SparseCore.T d).loc main_arg1
abbrev oLoc (d : Dev nD) : Loc nD τ sig := (SparseCore.T d).loc main_v4

section Tile

variable (d : Dev nD) (i : grid0.Coords)

abbrev cV (i : grid0.Coords) : Fin τ.nSC := (i 0).castLE hcore0
abbrev jV (i : grid0.Coords) : Fin τ.nSub := (i 1).castLE hsub0
/-- The task's thread. -/
abbrev thr (d : Dev nD) (i : grid0.Coords) : Thread nD τ := V d (cV i) (jV i)

/-- The result's window of the task, as the program slices it. -/
abbrev oWin (i : grid0.Coords) : Memref sig .scVector .hbm S64 .f32 :=
  ((oW).slice (Rect.unit (s := S16x128) (k0_off4 i) S1x64.size (k0_off4_inb i)) (fun _ => rfl)).squeeze S64 squeezes_S1x64_S64
/-- The elements of the result it writes. -/
abbrev oSet (i : grid0.Coords) : Finset S16x128.Idx := (oWin i).view.set

abbrev cell0 (d : Dev nD) (i : grid0.Coords) : GSem nD τ sig := (thr d i, .dma cc0_scoped0.sem)
abbrev cell1 (d : Dev nD) (i : grid0.Coords) : GSem nD τ sig := (thr d i, .dma cc0_scoped1.sem)
abbrev cell2 (d : Dev nD) (i : grid0.Coords) : GSem nD τ sig := (thr d i, .dma cc0_scoped2.sem)
abbrev cell3 (d : Dev nD) (i : grid0.Coords) : GSem nD τ sig := (thr d i, .dma cc0_scoped3.sem)

/-- A subcore's own counters: the four of its copies, and the rest. -/
theorem ownSems0_V :
    (ownSems0 (thr d i) : sProp 𝕄)
      = iprop(semVal (cell0 d i) 0 ∗ semVal (cell1 d i) 0 ∗ semVal (cell2 d i) 0 ∗ semVal (cell3 d i) 0
          ∗ bigSep (((((ownCells (thr d i)).erase (cell0 d i)).erase (cell1 d i)).erase (cell2 d i)).erase (cell3 d i)) fun g => semVal g 0) := by
  have hc {sm : SemLoc sig} (h : sm.isScoped .scVector = true) : ((thr d i, sm) : GSem nD τ sig) ∈ ownCells (thr d i) :=
    mem_ownCells.mpr ⟨rfl, h⟩
  have hne {a b : SemLoc sig} (h : a ≠ b) : ((thr d i, a) : GSem nD τ sig) ≠ (thr d i, b) := fun e => h (Prod.mk.inj e).2
  have h0 : cell0 d i ∈ ownCells (thr d i) := hc (by decide)
  have h1 : cell1 d i ∈ ownCells (thr d i) := hc (by decide)
  have h2 : cell2 d i ∈ ownCells (thr d i) := hc (by decide)
  have h3 : cell3 d i ∈ ownCells (thr d i) := hc (by decide)
  unfold SparseCore.Cfg.ownSems0
  rw [SparseCore.bigSep_erase' h0, SparseCore.bigSep_erase' (Finset.mem_erase.mpr ⟨hne (by decide), h1⟩),
    SparseCore.bigSep_erase' (Finset.mem_erase.mpr ⟨hne (by decide), Finset.mem_erase.mpr ⟨hne (by decide), h2⟩⟩),
    SparseCore.bigSep_erase' (Finset.mem_erase.mpr ⟨hne (by decide), Finset.mem_erase.mpr ⟨hne (by decide), Finset.mem_erase.mpr ⟨hne (by decide), h3⟩⟩⟩)]

/-- A subcore's own buffers: the four scratch buffers at some contents, and the rest. -/
theorem ownBufs_V :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2)).erase
              ((Proc.scVector (cV i) (jV i)).devRef cc0_scratch3))
              fun b => iprop(∃ f, ((d, b) : Loc nD τ sig) ↦{fullShare} f)) := by
  have hm (b : Ref sig .scVector) (h : ((Proc.scVector (cV i) (jV i)).devRef b).owner = .proc (.scVector (cV i) (jV i))) :
      (Proc.scVector (cV i) (jV i)).devRef b ∈ ownRefs (τ := τ) (.scVector (cV i) (jV i)) := SparseCore.Cfg.mem_ownRefs_of_owner h
  have hne {a b : Ref sig .scVector} (h : a ≠ b) : (Proc.scVector (cV i) (jV i)).devRef a ≠ (Proc.scVector (cV i) (jV i)).devRef b :=
    fun e => h (Proc.devRef_injective _ e)
  unfold SparseCore.Cfg.ownBufs
  refine (SparseCore.bigSep_erase' (hm cc0_scratch0 rfl)).trans ?_
  rw [SparseCore.bigSep_erase' (Finset.mem_erase.mpr ⟨hne (show (cc0_scratch1 : Ref sig .scVector) ≠ cc0_scratch0 by decide), hm cc0_scratch1 rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), hm cc0_scratch2 rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
        Finset.mem_erase.mpr ⟨hne (show (cc0_scratch3 : Ref sig .scVector) ≠ cc0_scratch0 by decide), hm cc0_scratch3 rfl⟩⟩⟩)]

/-! The arrays as the subcore's memrefs address them are the TensorCore's, and the scratch buffers the thread's. -/

theorem pts_x (q : PosShare TreeShare) (f : Buf (Elt F) (xLoc d)) :
    ((xW).view.loc (thr d i) ↦{q} f : sProp 𝕄) = xLoc d ↦{q} f := rfl
theorem pts_y (q : PosShare TreeShare) (f : Buf (Elt F) (yLoc d)) :
    ((yW).view.loc (thr d i) ↦{q} f : sProp 𝕄) = yLoc d ↦{q} f := rfl
theorem pts_t (q : PosShare TreeShare) (f : Buf (Elt F) (tLoc d)) :
    ((tW).view.loc (thr d i) ↦{q} f : sProp 𝕄) = tLoc d ↦{q} f := rfl
theorem pts_o (f : Buf (Elt F) (oLoc d)) :
    ((oWin i).view.loc (thr d i) ↦[(oWin i).view.set]{fullShare} f : sProp 𝕄) = oLoc d ↦[oSet i]{fullShare} f := rfl
theorem pts_0 (f : Buf (Elt F) ((thr d i).loc cc0_scratch0)) :
    ((s0W).view.loc (thr d i) ↦{fullShare} f : sProp 𝕄) = (thr d i).loc cc0_scratch0 ↦{fullShare} f := rfl
theorem pts_1 (f : Buf (Elt F) ((thr d i).loc cc0_scratch1)) :
    ((s1W).view.loc (thr d i) ↦{fullShare} f : sProp 𝕄) = (thr d i).loc cc0_scratch1 ↦{fullShare} f := rfl
theorem pts_2 (f : Buf (Elt F) ((thr d i).loc cc0_scratch2)) :
    ((s2W).view.loc (thr d i) ↦{fullShare} f : sProp 𝕄) = (thr d i).loc cc0_scratch2 ↦{fullShare} f := rfl
theorem pts_3 (f : Buf (Elt F) ((thr d i).loc cc0_scratch3)) :
    ((s3W).view.loc (thr d i) ↦{fullShare} f : sProp 𝕄) = (thr d i).loc cc0_scratch3 ↦{fullShare} f := rfl

variable [FloatOps F]

/-- What eight points add to a running sum, one after another. -/
def from8 (x y : ℕ → F .f32) (t a : F .f32) (n : ℕ) : F .f32 :=
  FloatOps.addf (FloatOps.addf (FloatOps.addf (FloatOps.addf (FloatOps.addf (FloatOps.addf (FloatOps.addf (FloatOps.addf a
    (phi t (x n) (y n))) (phi t (x (n + 1)) (y (n + 1)))) (phi t (x (n + 2)) (y (n + 2)))) (phi t (x (n + 3)) (y (n + 3))))
    (phi t (x (n + 4)) (y (n + 4)))) (phi t (x (n + 5)) (y (n + 5)))) (phi t (x (n + 6)) (y (n + 6)))) (phi t (x (n + 7)) (y (n + 7)))

theorem from8_accAt (x y : ℕ → F .f32) (t : F .f32) (n : ℕ) : from8 x y t (accAt x y t n) n = accAt x y t (n + 8) := rfl

/-- Entry `n` of a scratch list of 912, zero's bits' reading off it. -/
def bufAt (g : S912.Idx → F .f32) (n : ℕ) : F .f32 := if h : n < 912 then g (ix1 ⟨n, h⟩) else FloatOps.ofBits .f32 0x00000000#32

/-- One register's trip. -/
def stepV (g0 g1 : S912.Idx → F .f32) (k : ℕ) (v a : FVec F S16 .f32) : FVec F S16 .f32 :=
  fun l => from8 (bufAt g0) (bufAt g1) (v l) (a l) (8 * k)

/-- Lane `p` of a register as the body takes it out. -/
def lane (v : FVec F S16 .f32) (p : ℕ) (h : S16.Slices ![p] S1) : F .f32 := extractAt ![0] (extractStridedSlice S1 ![p] v h) inpos_S1_p0

theorem lane_eq (v : FVec F S16 .f32) (p : ℕ) (h : S16.Slices ![p] S1) (hp : p < 16) : lane v p h = v (ix1 ⟨p, hp⟩) := by
  refine congrArg v (funext fun a => Fin.ext ?_)
  match a with | ⟨0, _⟩ => rfl

/-- A register's trip over the lanes as the body takes them out. -/
def lanes8 (v w : FVec F S16 .f32) (t a : F .f32) : F .f32 :=
  FloatOps.addf (FloatOps.addf (FloatOps.addf (FloatOps.addf (FloatOps.addf (FloatOps.addf (FloatOps.addf (FloatOps.addf a
    (phi t (lane v 0 slices_S16_o0_S1) (lane w 0 slices_S16_o0_S1))) (phi t (lane v 1 slices_S16_o1_S1) (lane w 1 slices_S16_o1_S1)))
    (phi t (lane v 2 slices_S16_o2_S1) (lane w 2 slices_S16_o2_S1))) (phi t (lane v 3 slices_S16_o3_S1) (lane w 3 slices_S16_o3_S1)))
    (phi t (lane v 4 slices_S16_o4_S1) (lane w 4 slices_S16_o4_S1))) (phi t (lane v 5 slices_S16_o5_S1) (lane w 5 slices_S16_o5_S1)))
    (phi t (lane v 6 slices_S16_o6_S1) (lane w 6 slices_S16_o6_S1))) (phi t (lane v 7 slices_S16_o7_S1) (lane w 7 slices_S16_o7_S1))

theorem lanes8_eq (v w : FVec F S16 .f32) (x y : ℕ → F .f32) (t a : F .f32) (n : ℕ)
    (hv : ∀ (p : ℕ) (hp : p < 16), v (ix1 ⟨p, hp⟩) = x (n + p)) (hw : ∀ (p : ℕ) (hp : p < 16), w (ix1 ⟨p, hp⟩) = y (n + p)) :
    lanes8 v w t a = from8 x y t a n := by
  unfold lanes8 from8
  simp only [lane_eq _ 0 _ (by decide), lane_eq _ 1 _ (by decide), lane_eq _ 2 _ (by decide), lane_eq _ 3 _ (by decide), lane_eq _ 4 _ (by decide),
    lane_eq _ 5 _ (by decide), lane_eq _ 6 _ (by decide), lane_eq _ 7 _ (by decide), hv, hw]
  rfl

/-- A load of a scratch list at a trip's offset. -/
theorem load0 (g : Buf (Elt F) ((thr d i).loc cc0_scratch0)) (k : Fin k0_t1_loop.trips) (p : ℕ) (hp : p < 16) :
    k0_pay9 (View.readAt (Elt F) (s0W).view (Rect.unit (s := S912) (k0_off3 k) S16.size (k0_off3_inb k)).toLoadRect g) (ix1 ⟨p, hp⟩)
      = bufAt g (8 * k.val + p) := by
  have hk : k.val < 112 := k.isLt
  have e : k0_off3 k = ![8 * k.val] := k0_off3_eq k
  unfold k0_pay9 bufAt
  rw [shapeCast_self, dif_pos (show 8 * k.val + p < 912 by omega)]
  refine congrArg g (funext fun a => Fin.ext ?_)
  match a with
  | ⟨0, _⟩ =>
    show k0_off3 k 0 + 1 * p = 8 * k.val + p
    rw [e, Nat.one_mul]; rfl

theorem load1 (g : Buf (Elt F) ((thr d i).loc cc0_scratch1)) (k : Fin k0_t1_loop.trips) (p : ℕ) (hp : p < 16) :
    k0_pay10 (View.readAt (Elt F) (s1W).view (Rect.unit (s := S912) (k0_off3 k) S16.size (k0_off3_inb k)).toLoadRect g) (ix1 ⟨p, hp⟩)
      = bufAt g (8 * k.val + p) := load0 d i g k p hp

/-- One trip of the point loop. -/
theorem trip (g0 : Buf (Elt F) ((thr d i).loc cc0_scratch0)) (g1 : Buf (Elt F) ((thr d i).loc cc0_scratch1))
    (v31 v33 v35 v37 : FVec F S16 .f32) (c0 : BitVec 32) (k : Fin k0_t1_loop.trips) (a1 a2 a3 a4 : FVec F S16 .f32)
    (Q : FVec F S16 .f32 × FVec F S16 .f32 × FVec F S16 .f32 × FVec F S16 .f32 → sProp 𝕄) :
    iprop(((thr d i).loc cc0_scratch0 ↦{fullShare} g0) ∗ ((thr d i).loc cc0_scratch1 ↦{fullShare} g1)
        ∗ (iprop(((thr d i).loc cc0_scratch0 ↦{fullShare} g0) ∗ ((thr d i).loc cc0_scratch1 ↦{fullShare} g1))
            -∗ Q (stepV g0 g1 k v31 a1, stepV g0 g1 k v33 a2, stepV g0 g1 k v35 a3, stepV g0 g1 k v37 a4)))
      ⊢ wp frame (wpE (defs₀ (F := F)) 𝒱₀ (thr d i) none) Set.univ
          (k0_t1_body i xW (Memref.isWhole_whole _) yW (Memref.isWhole_whole _) tW (Memref.isWhole_whole _) oW (Memref.isWhole_whole _)
            s0W (Memref.isWhole_whole _) s1W (Memref.isWhole_whole _) s2W (Memref.isWhole_whole _) s3W (Memref.isWhole_whole _)
            cc0_scoped0 cc0_scoped1 cc0_scoped2 cc0_scoped3 v31 v33 v35 v37 c0 k (a1, a2, a3, a4)) Q := by
  unfold k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [bind_assoc, pure_bind]
  iintro ⟨H0, H1, HQ⟩
  ihave H0' := (Entails.of_eq (pts_0 (F := F) d i g0).symm) $$ H0
  ihave H1' := (Entails.of_eq (pts_1 (F := F) d i g1).symm) $$ H1
  sl_exec
  sl_step
  ihave HQ' := HQ $$ [H0' H1']
  · isplitl [H0']
    · iexact H0'
    · iexact H1'
  refine Entails.of_eq (congrArg Q ?_)
  have h0 := load0 (F := F) d i g0 k
  have h1 := load1 (F := F) d i g1 k
  have hs (v a : FVec F S16 .f32) : stepV g0 g1 k v a = fun l => lanes8 (k0_pay9 (View.readAt (Elt F) (s0W).view (Rect.unit (s := S912) (k0_off3 k) S16.size (k0_off3_inb k)).toLoadRect g0)) (k0_pay10 (View.readAt (Elt F) (s1W).view (Rect.unit (s := S912) (k0_off3 k) S16.size (k0_off3_inb k)).toLoadRect g1)) (v l) (a l) :=
    funext fun l => (lanes8_eq _ _ _ _ _ _ _ h0 h1).symm
  rw [hs, hs, hs, hs]
  rfl

/-! ### What the copies move -/

/-- The batch row of a task, and the first sample position of its half. -/
def bT (i : grid0.Coords) : ℕ := 8 * (i 0).val + (i 1).val / 2
def hT (i : grid0.Coords) : ℕ := 64 * ((i 1).val % 2)

theorem bT_lt (i : grid0.Coords) : bT i < 16 := by
  have h0 : (i 0).val < 2 := (i 0).isLt
  have h1 : (i 1).val < 16 := (i 1).isLt
  unfold bT; omega
theorem hT_le (i : grid0.Coords) : hT i ≤ 64 := by unfold hT; omega

set_option synthInstance.maxHeartbeats 1000000 in
theorem off1_eq : ∀ i : grid0.Coords, k0_off1 i = ![bT i, 0] := by decide +kernel
set_option synthInstance.maxHeartbeats 1000000 in
theorem off2_eq : ∀ i : grid0.Coords, k0_off2 i = ![hT i] := by decide +kernel
set_option synthInstance.maxHeartbeats 1000000 in
theorem off4_eq : ∀ i : grid0.Coords, k0_off4 i = ![bT i, hT i] := by decide +kernel

theorem unsq {n : ℕ} (h : (⟨1, ![n]⟩ : Shape).numel = (⟨2, ![1, n]⟩ : Shape).numel) (j : (⟨1, ![n]⟩ : Shape).Idx) :
    Shape.reshapeEquiv h j = (ix2 (0 : Fin 1) (show Fin n from j 0) : (⟨2, ![1, n]⟩ : Shape).Idx) := by
  refine Shape.reshapeEquiv_eq_of_rowMajor _ ?_
  rw [Shape.rowMajor_val_two, Shape.rowMajor_val_one]
  show 0 * n + (j 0).val = (j 0).val
  omega

/-- A row's first 896 entries as the copy reads them. -/
theorem row_read (X : Buf (Elt F) (xLoc d)) (j : S896.Idx) :
    View.read (Elt F) (((xW).slice (Rect.unit (s := S16x2048) (k0_off1 i) S1x896.size (k0_off1_inb i)) (fun _ => rfl)).squeeze S896 squeezes_S1x896_S896).view X j
      = rowAt X (bT i) (j 0).val := by
  have hj : (j 0).val < 896 := (j 0).isLt
  unfold rowAt
  rw [dif_pos ⟨bT_lt i, by omega⟩]
  show X ((Rect.unit (s := S16x2048) (k0_off1 i) S1x896.size (k0_off1_inb i)).emb (Shape.reshapeEquiv _ j)) = _
  rw [unsq]
  refine congrArg X (Rect.emb_eq_of_coords _ _ _ fun a => ?_)
  match a with
  | ⟨0, _⟩ => show bT i = k0_off1 i 0 + 1 * 0; rw [off1_eq]; rfl
  | ⟨1, _⟩ => show (j 0).val = k0_off1 i 1 + 1 * (j 0).val; rw [off1_eq, Nat.one_mul]; exact (Nat.zero_add _).symm

/-- The scratch list after the copy. -/
theorem scratch_at (f : Buf (Elt F) ((thr d i).loc cc0_scratch0)) (w : S896.Idx → F .f32) (n : ℕ) (h : n < 896) :
    bufAt ((s0W).view.writes (Elt F) f [⟨Rect.unit ![0] S896.size inb_S912_S896_0, w⟩]) n = w (ix1 ⟨n, h⟩) := by
  unfold bufAt
  rw [dif_pos (show n < 912 by omega)]
  have e : (Rect.unit (s := S912) ![0] S896.size inb_S912_S896_0).emb (ix1 ⟨n, h⟩ : S896.Idx) = (ix1 ⟨n, by omega⟩ : S912.Idx) :=
    Rect.emb_eq_of_coords _ _ _ fun a => by match a with | ⟨0, _⟩ => show n = 0 + 1 * n; omega
  rw [← e]
  exact View.write_emb_of_mem (v := (s0W).view.slice (Rect.unit (s := S912) ![0] S896.size inb_S912_S896_0)) (Val := Elt F) f w (Finset.mem_univ _)

theorem scratch_at1 (f : Buf (Elt F) ((thr d i).loc cc0_scratch1)) (w : S896.Idx → F .f32) (n : ℕ) (h : n < 896) :
    bufAt ((s1W).view.writes (Elt F) f [⟨Rect.unit ![0] S896.size inb_S912_S896_0, w⟩]) n = w (ix1 ⟨n, h⟩) := scratch_at d i f w n h

/-- The sample positions of the task's half as the copy reads them. -/
theorem half_read (t : Buf (Elt F) (tLoc d)) (j : S64.Idx) (h : hT i + (j 0).val < 128) :
    View.read (Elt F) ((tW).slice (Rect.unit (s := S128) (k0_off2 i) S64.size (k0_off2_inb i)) (fun _ => rfl)).view t j
      = t (ix1 ⟨hT i + (j 0).val, h⟩) := by
  show t ((Rect.unit (s := S128) (k0_off2 i) S64.size (k0_off2_inb i)).emb j) = _
  refine congrArg t (Rect.emb_eq_of_coords _ _ _ fun a => ?_)
  match a with | ⟨0, _⟩ => show hT i + (j 0).val = k0_off2 i 0 + 1 * (j 0).val; rw [off2_eq, Nat.one_mul]; rfl

/-- Sixteen of the half's sample positions. -/
def tAt (t : S128.Idx → F .f32) (n : ℕ) : F .f32 := if h : n < 128 then t (ix1 ⟨n, h⟩) else FloatOps.ofBits .f32 0x00000000#32
def tv (i : grid0.Coords) (t : S128.Idx → F .f32) (q : ℕ) : FVec F S16 .f32 :=
  fun l => tAt t (hT i + (q + (l 0).val))

/-- A register loaded from the fetched sample positions. -/
theorem tv_load (t : Buf (Elt F) (tLoc d)) (f : Buf (Elt F) ((thr d i).loc cc0_scratch2)) (w : S64.Idx → F .f32)
    (hw : ∀ (j : S64.Idx) (h : hT i + (j 0).val < 128), w j = t (ix1 ⟨hT i + (j 0).val, h⟩)) (q : ℕ) (hq : q + 16 ≤ 64)
    (inb : ∀ a, (![q] : Fin 1 → ℕ) a + S16.size a ≤ S64.size a) :
    View.readAt (Elt F) (s2W).view (Rect.unit (s := S64) ![q] S16.size inb).toLoadRect (View.write (Elt F) (s2W).view f w Finset.univ) = tv i t q := by
  funext l
  have hl : (l 0).val < 16 := (l 0).isLt
  have hh := hT_le i
  have hlt : q + (l 0).val < 64 := by omega
  have e : View.write (Elt F) (s2W).view f w Finset.univ = w := View.write_whole_univ _ _ _
  rw [e]
  unfold tv tAt
  rw [dif_pos (show hT i + (q + (l 0).val) < 128 by omega)]
  refine Eq.trans ?_ (hw (ix1 ⟨q + (l 0).val, hlt⟩) (by show hT i + (q + (l 0).val) < 128; omega))
  refine congrArg w (funext fun a => Fin.ext ?_)
  match a with | ⟨0, _⟩ => show q + 1 * (l 0).val = q + (l 0).val; omega

/-- A register's sums after `n` points. -/
def accV (x y : ℕ → F .f32) (v : FVec F S16 .f32) (n : ℕ) : FVec F S16 .f32 := fun l => accAt x y (v l) n

/-- Over the lists as fetched, the sums are the rows'. -/
theorem acc_row (X : Buf (Elt F) (xLoc d)) (Y : Buf (Elt F) (yLoc d)) (f0 : Buf (Elt F) ((thr d i).loc cc0_scratch0))
    (f1 : Buf (Elt F) ((thr d i).loc cc0_scratch1)) (w0 w1 : S896.Idx → F .f32)
    (h0 : ∀ j, w0 j = rowAt X (bT i) (j 0).val) (h1 : ∀ j, w1 j = rowAt Y (bT i) (j 0).val) (v : FVec F S16 .f32) (l : S16.Idx) :
    shapeCast S16 (accV (bufAt ((s0W).view.writes (Elt F) f0 [⟨Rect.unit ![0] S896.size inb_S912_S896_0, w0⟩]))
      (bufAt ((s1W).view.writes (Elt F) f1 [⟨Rect.unit ![0] S896.size inb_S912_S896_0, w1⟩])) v
        (8 * Scf.trips k0_t1_loop.lb k0_t1_loop.ub k0_t1_loop.st)) shapeCasts_S16_S16 l
      = accAt (rowAt X (bT i)) (rowAt Y (bT i)) (v l) 896 := by
  rw [shapeCast_self, show 8 * Scf.trips k0_t1_loop.lb k0_t1_loop.ub k0_t1_loop.st = 896 by decide]
  exact accAt_congr _ _ (fun n hn => (scratch_at d i f0 w0 n hn).trans (h0 _)) (fun n hn => (scratch_at1 d i f1 w1 n hn).trans (h1 _))

theorem stepV_accV (g0 g1 : S912.Idx → F .f32) (k : ℕ) (v : FVec F S16 .f32) :
    stepV g0 g1 k v (accV (bufAt g0) (bufAt g1) v (8 * k)) = accV (bufAt g0) (bufAt g1) v (8 * (k + 1)) :=
  funext fun l => from8_accAt (bufAt g0) (bufAt g1) (v l) (8 * k)

/-- The point loop's invariant: both lists as fetched, the registers the sums of the points so far. -/
def inv (g0 : Buf (Elt F) ((thr d i).loc cc0_scratch0)) (g1 : Buf (Elt F) ((thr d i).loc cc0_scratch1)) (v31 v33 v35 v37 : FVec F S16 .f32)
    (k : ℕ) (acc : FVec F S16 .f32 × FVec F S16 .f32 × FVec F S16 .f32 × FVec F S16 .f32) : sProp 𝕄 :=
  iprop(((thr d i).loc cc0_scratch0 ↦{fullShare} g0) ∗ ((thr d i).loc cc0_scratch1 ↦{fullShare} g1)
    ∗ ⌜acc = (accV (bufAt g0) (bufAt g1) v31 (8 * k), accV (bufAt g0) (bufAt g1) v33 (8 * k), accV (bufAt g0) (bufAt g1) v35 (8 * k),
        accV (bufAt g0) (bufAt g1) v37 (8 * k))⌝)

theorem trip_inv (g0 : Buf (Elt F) ((thr d i).loc cc0_scratch0)) (g1 : Buf (Elt F) ((thr d i).loc cc0_scratch1))
    {u1 u2 u3 u4 v31 v33 v35 v37 : FVec F S16 .f32} (h1 : v31 = u1) (h2 : v33 = u2) (h3 : v35 = u3) (h4 : v37 = u4) (c0 : BitVec 32)
    (k : Fin k0_t1_loop.trips) (acc : FVec F S16 .f32 × FVec F S16 .f32 × FVec F S16 .f32 × FVec F S16 .f32) :
    inv d i g0 g1 u1 u2 u3 u4 k.val acc
      ⊢ wp frame (wpE (defs₀ (F := F)) 𝒱₀ (thr d i) none) Set.univ
          (k0_t1_body i xW (Memref.isWhole_whole _) yW (Memref.isWhole_whole _) tW (Memref.isWhole_whole _) oW (Memref.isWhole_whole _)
            s0W (Memref.isWhole_whole _) s1W (Memref.isWhole_whole _) s2W (Memref.isWhole_whole _) s3W (Memref.isWhole_whole _)
            cc0_scoped0 cc0_scoped1 cc0_scoped2 cc0_scoped3 v31 v33 v35 v37 c0 k acc) (inv d i g0 g1 u1 u2 u3 u4 (k.val + 1)) := by
  subst h1 h2 h3 h4
  unfold inv
  iintro ⟨H0, H1, %hacc⟩
  subst hacc
  iapply (trip (F := F) d i g0 g1 v31 v33 v35 v37 c0 k _ _ _ _ _)
  isplitl [H0]; · iexact H0
  isplitl [H1]; · iexact H1
  iintro ⟨H0, H1⟩
  isplitl [H0]; · iexact H0
  isplitl [H1]; · iexact H1
  ipureintro
  rw [stepV_accV, stepV_accV, stepV_accV, stepV_accV]

/-- The scratch list the results leave from: four registers side by side. -/
theorem out_read (f : Buf (Elt F) ((thr d i).loc cc0_scratch3)) (G : S64.Idx → F .f32) (w0 w1 w2 w3 : S16.Idx → F .f32)
    (h0 : ∀ l : S16.Idx, w0 l = G (ix1 ⟨(l 0).val, by have := (l 0).isLt; change _ < 16 at this; omega⟩))
    (h1 : ∀ l : S16.Idx, w1 l = G (ix1 ⟨16 + (l 0).val, by have := (l 0).isLt; change _ < 16 at this; omega⟩))
    (h2 : ∀ l : S16.Idx, w2 l = G (ix1 ⟨32 + (l 0).val, by have := (l 0).isLt; change _ < 16 at this; omega⟩))
    (h3 : ∀ l : S16.Idx, w3 l = G (ix1 ⟨48 + (l 0).val, by have := (l 0).isLt; change _ < 16 at this; omega⟩)) :
    View.read (Elt F) (s3W).view ((s3W).view.writes (Elt F) f [⟨Rect.unit (s := S64) ![48] S16.size inb_S64_S16_48, w3⟩, ⟨Rect.unit ![32] S16.size inb_S64_S16_32, w2⟩,
      ⟨Rect.unit ![16] S16.size inb_S64_S16_16, w1⟩, ⟨Rect.unit ![0] S16.size inb_S64_S16_0, w0⟩]) = G := by
  funext y
  refine View.read_writes_apply_of_pieces (s3W).view f G _ ?_ y (View.cover_of_tiled _ ![16] rfl y)
  intro p hp x
  have hG (o : ℕ) (inb : ∀ a, (![o] : Fin 1 → ℕ) a + S16.size a ≤ S64.size a) (x : S16.Idx) (hh : o + (x 0).val < 64) :
      G (ix1 ⟨o + (x 0).val, hh⟩) = G ((Rect.unit (s := S64) ![o] S16.size inb).emb x) :=
    congrArg G (Rect.emb_eq_of_coords _ _ _ fun a => by match a with | ⟨0, _⟩ => show o + (x 0).val = o + 1 * (x 0).val; omega).symm
  simp only [List.mem_cons, List.not_mem_nil, or_false] at hp
  rcases hp with rfl | rfl | rfl | rfl
  · exact (h3 x).trans (hG 48 inb_S64_S16_48 x _)
  · exact (h2 x).trans (hG 32 inb_S64_S16_32 x _)
  · exact (h1 x).trans (hG 16 inb_S64_S16_16 x _)
  · refine (h0 x).trans (Eq.trans ?_ (hG 0 inb_S64_S16_0 x (by have := (x 0).isLt; change _ < 16 at this; omega)))
    refine congrArg G (congrArg ix1 (Fin.ext (Nat.zero_add _).symm))

/-- The result's window once the list's copy has landed. -/
theorem out_close (X : Buf (Elt F) (xLoc d)) (Y : Buf (Elt F) (yLoc d)) (t : Buf (Elt F) (tLoc d)) (o : Buf (Elt F) (oLoc d)) (w : S64.Idx → F .f32)
    (hw : ∀ (j : S64.Idx) (h : hT i + (j 0).val < 128), w j = accAt (rowAt X (bT i)) (rowAt Y (bT i)) (t (ix1 ⟨hT i + (j 0).val, h⟩)) 896) :
    ((oWin i).view.loc (thr d i) ↦[(oWin i).view.set]{fullShare} (oWin i).view.writes (Elt F) o [⟨Rect.whole S64, w⟩] : sProp 𝕄)
      = oLoc d ↦[oSet i]{fullShare} scOut X Y t := by
  refine (pointsTo_congr (ℓ := oLoc d) ?_)
  intro x hx
  obtain ⟨y, -, rfl⟩ := Finset.mem_map.mp hx
  refine (View.read_writes_cons_hit (oWin i).view o (Rect.whole S64) w [] y y (Rect.emb_whole_apply S64 y)).trans ?_
  have hy : (y 0).val < 64 := (y 0).isLt
  have hh := hT_le i
  refine (hw y (by omega)).trans ?_
  have e : (oWin i).view.emb y = (ix2 ⟨bT i, bT_lt i⟩ ⟨hT i + (y 0).val, by omega⟩ : S16x128.Idx) := by
    show (Rect.unit (s := S16x128) (k0_off4 i) S1x64.size (k0_off4_inb i)).emb (Shape.reshapeEquiv _ y) = _
    rw [unsq]
    refine Rect.emb_eq_of_coords _ _ _ fun a => ?_
    match a with
    | ⟨0, _⟩ => show bT i = k0_off4 i 0 + 1 * 0; rw [off4_eq]; rfl
    | ⟨1, _⟩ => show hT i + (y 0).val = k0_off4 i 1 + 1 * (y 0).val; rw [off4_eq, Nat.one_mul]; rfl
  rw [e]
  rfl

theorem tile_body (q : PosShare TreeShare) (X : Buf (Elt F) (xLoc d)) (Y : Buf (Elt F) (yLoc d)) (t : Buf (Elt F) (tLoc d)) (o : Buf (Elt F) (oLoc d))
    (O : CellTallies nD τ sig (HIx 1)) (W : Waits sig (HIx 1)) (hO : ∀ g, O g none = 0) :
    (iprop(levAts (K (F := F)).L (K (F := F)).lev
        ∗ ((xLoc d ↦{q} X) ∗ (yLoc d ↦{q} Y) ∗ (tLoc d ↦{q} t) ∗ (oLoc d ↦[oSet i]{fullShare} o))
        ∗ scopedBufs (thr d i) ∗ scopedSems0 (thr d i) ∗ owes (thr d i) O W) : sProp 𝕄)
      ⊢ wp frame (wpE (defs₀ (F := F)) 𝒱₀ (thr d i) none) Set.univ
          (cc0__sc_body i xW (Memref.isWhole_whole _) yW (Memref.isWhole_whole _) tW (Memref.isWhole_whole _) oW (Memref.isWhole_whole _)
            s0W (Memref.isWhole_whole _) s1W (Memref.isWhole_whole _) s2W (Memref.isWhole_whole _) s3W (Memref.isWhole_whole _)
            cc0_scoped0 cc0_scoped1 cc0_scoped2 cc0_scoped3)
          fun _ => iprop(((xLoc d ↦{q} X) ∗ (yLoc d ↦{q} Y) ∗ (tLoc d ↦{q} t) ∗ (oLoc d ↦[oSet i]{fullShare} scOut X Y t))
            ∗ scopedBufs (thr d i) ∗ scopedSems0 (thr d i) ∗ ∃ W', ⌜∀ p ∈ W', p ∈ W ∨ p.2 = none⌝ ∗ owes (thr d i) O W') := by
  simp only [cc0__sc_body_eq_skeleton]; unfold cc0__sc_body_skel
  simp only [k0_part6_eq_skeleton, k0_part7_eq_skeleton]; unfold k0_part6_skel k0_part7_skel
  rw [(K (F := F)).scopedBufs_V facts d (cV i) (jV i), SparseCore.Cfg.scopedSems0_V (Val := Elt F) d (cV i) (jV i), ownSems0_V, ownBufs_V]
  iintro ⟨#Hlv, ⟨Hx, Hy, Ht, Ho⟩, ⟨⟨%f0, H0⟩, ⟨%f1, H1⟩, ⟨%f2, H2⟩, ⟨%f3, H3⟩, Hbufs⟩, ⟨Hs0, Hs1, Hs2, Hs3, Hsems⟩, HO⟩
  ihave Hmw := ((K (F := F)).mayWaits_none (thr := thr d i) hO) $$ Hlv
  ihave Hx' := (Entails.of_eq (pts_x (F := F) d i q X).symm) $$ Hx
  ihave Hy' := (Entails.of_eq (pts_y (F := F) d i q Y).symm) $$ Hy
  ihave Ht' := (Entails.of_eq (pts_t (F := F) d i q t).symm) $$ Ht
  ihave Ho' := (Entails.of_eq (pts_o (F := F) d i o).symm) $$ Ho
  ihave H0' := (Entails.of_eq (pts_0 (F := F) d i f0).symm) $$ H0
  ihave H1' := (Entails.of_eq (pts_1 (F := F) d i f1).symm) $$ H1
  ihave H2' := (Entails.of_eq (pts_2 (F := F) d i f2).symm) $$ H2
  ihave H3' := (Entails.of_eq (pts_3 (F := F) d i f3).symm) $$ H3
  sl_exec (disch := exact View.amount_pos _ _ (show 0 < S896.numel by decide))
  have hv (q : ℕ) (hq : q + 16 ≤ 64) (inb : ∀ a, (![q] : Fin 1 → ℕ) a + S16.size a ≤ S64.size a) :
      shapeCast S16 (View.readAt (Elt F) (s2W).view (Rect.unit (s := S64) ![q] S16.size inb).toLoadRect
        (View.write (Elt F) (s2W).view f2 (tile_body.sl.dma0_2 d i t) Finset.univ)) shapeCasts_S16_S16 = tv i t q :=
    (shapeCast_self _ _).trans (tv_load d i t f2 _ (half_read d i t) q hq inb)
  sl_for (inv d i ((s0W).view.writes (Elt F) f0 [⟨Rect.unit ![0] S896.size inb_S912_S896_0, tile_body.sl.dma0 d i X⟩])
      ((s1W).view.writes (Elt F) f1 [⟨Rect.unit ![0] S896.size inb_S912_S896_0, tile_body.sl.dma0_1 d i Y⟩]) (tv i t 0) (tv i t 16) (tv i t 32) (tv i t 48)) $$ [H0' H1']
  case region =>
    intro k acc
    exact trip_inv (F := F) d i _ _ (hv 0 (by decide) _) (hv 16 (by decide) _) (hv 32 (by decide) _) (hv 48 (by decide) _) _ k acc
  · unfold inv
    isplitl [H0']; · iexact H0'
    isplitl [H1']; · iexact H1'
    ipureintro
    rfl
  iintro %acc HI
  unfold inv
  icases HI with ⟨H0, H1, %hacc⟩
  subst hacc
  iclear Hlv
  ihave H0' := (Entails.of_eq (pts_0 (F := F) d i _).symm) $$ H0
  ihave H1' := (Entails.of_eq (pts_1 (F := F) d i _).symm) $$ H1
  sl_exec (disch := exact View.amount_pos _ _ (show 0 < S64.numel by decide))
  have hout (f0 : Buf (Elt F) ((thr d i).loc cc0_scratch0)) (f1 : Buf (Elt F) ((thr d i).loc cc0_scratch1)) (f3 : Buf (Elt F) ((thr d i).loc cc0_scratch3))
      (j : S64.Idx) (h : hT i + (j 0).val < 128) : tile_body.sl.dma8 d i X Y t f0 f1 f3 j
        = accAt (rowAt X (bT i)) (rowAt Y (bT i)) (t (ix1 ⟨hT i + (j 0).val, h⟩)) 896 := by
    refine (congrFun (out_read d i f3 (fun j => accAt (rowAt X (bT i)) (rowAt Y (bT i)) (tAt t (hT i + (j 0).val)) 896) _ _ _ _ ?_ ?_ ?_ ?_) j).trans ?_
    · intro l
      exact (acc_row d i X Y f0 f1 (tile_body.sl.dma0 d i X) (tile_body.sl.dma0_1 d i Y) (row_read d i X) (row_read d i Y) (tv i t 0) l).trans
        (congrArg (fun n => accAt (rowAt X (bT i)) (rowAt Y (bT i)) (tAt t (hT i + n)) 896) (Nat.zero_add _))
    · exact acc_row d i X Y f0 f1 (tile_body.sl.dma0 d i X) (tile_body.sl.dma0_1 d i Y) (row_read d i X) (row_read d i Y) (tv i t 16)
    · exact acc_row d i X Y f0 f1 (tile_body.sl.dma0 d i X) (tile_body.sl.dma0_1 d i Y) (row_read d i X) (row_read d i Y) (tv i t 32)
    · exact acc_row d i X Y f0 f1 (tile_body.sl.dma0 d i X) (tile_body.sl.dma0_1 d i Y) (row_read d i X) (row_read d i Y) (tv i t 48)
    · exact congrArg (fun z => accAt (rowAt X (bT i)) (rowAt Y (bT i)) z 896) (dif_pos h)
  sl_step
  ihave Ho := (Entails.of_eq (out_close (F := F) d i X Y t o _ (hout f0 f1 f3))) $$ Ho'
  isplitl [Hx' Hy' Ht' Ho]
  · isplitl [Hx']; · iexact Hx'
    isplitl [Hy']; · iexact Hy'
    isplitl [Ht']; · iexact Ht'
    iexact Ho
  isplitl [H0' H1' H2' H3' Hbufs]
  · isplitl [H0']; · iexists _; iexact H0'
    isplitl [H1']; · iexists _; iexact H1'
    isplitl [H2']; · iexists _; iexact H2'
    isplitl [H3']; · iexists _; iexact H3'
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _
  isplitr; swap
  · iexact HO
  ipureintro
  intro p hp
  simp only [Finset.mem_insert] at hp
  rcases hp with rfl | rfl | rfl | rfl | hp
  · exact .inr rfl
  · exact .inr rfl
  · exact .inr rfl
  · exact .inr rfl
  · exact .inl hp

end Tile

end Cert.Proof
end
-- ==== Proof.Deal.lean ====
/-
  The SparseCore call as the launch sees it: what each handshake carries, a task's obligation, the dealing of the arrays to the
  SparseCores and their subcores and their return.
-/
module

public import proofs.«01_k».proof.Proof.Tile

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

-- the kernel's memrefs as the body table passes them
local notation "xW" => (Memref.whole Cert.KernelIdeal.main_v1_scv : Memref Cert.KernelIdeal.sig Kind.scVector Space.hbm Cert.KernelIdeal.S16x2048 EltTy.f32)
local notation "yW" => (Memref.whole Cert.KernelIdeal.main_v3_scv : Memref Cert.KernelIdeal.sig Kind.scVector Space.hbm Cert.KernelIdeal.S16x2048 EltTy.f32)
local notation "tW" => (Memref.whole Cert.KernelIdeal.main_arg1_scv : Memref Cert.KernelIdeal.sig Kind.scVector Space.hbm Cert.KernelIdeal.S128 EltTy.f32)
local notation "oW" => (Memref.whole Cert.KernelIdeal.main_v4_scv : Memref Cert.KernelIdeal.sig Kind.scVector Space.hbm Cert.KernelIdeal.S16x128 EltTy.f32)
local notation "s0W" => (Memref.whole Cert.KernelIdeal.cc0_scratch0 : Memref Cert.KernelIdeal.sig Kind.scVector Space.vmem Cert.KernelIdeal.S912 EltTy.f32)
local notation "s1W" => (Memref.whole Cert.KernelIdeal.cc0_scratch1 : Memref Cert.KernelIdeal.sig Kind.scVector Space.vmem Cert.KernelIdeal.S912 EltTy.f32)
local notation "s2W" => (Memref.whole Cert.KernelIdeal.cc0_scratch2 : Memref Cert.KernelIdeal.sig Kind.scVector Space.vmem Cert.KernelIdeal.S64 EltTy.f32)
local notation "s3W" => (Memref.whole Cert.KernelIdeal.cc0_scratch3 : Memref Cert.KernelIdeal.sig Kind.scVector Space.vmem Cert.KernelIdeal.S64 EltTy.f32)

/-! ## Core `c`'s subcore `i` as a point of the call's grid, and the pieces of the result -/

def coordsV (c : Fin (grid0.bound 0)) (s : Fin (grid0.bound 1)) : grid0.Coords :=
  fun | 0 => c | 1 => s | ⟨_ + 2, h⟩ => absurd h (Nat.not_lt.2 (Nat.le_add_left _ _))

abbrev co (c : Fin 2) (i : Fin 16) : grid0.Coords := coordsV c i

theorem mem_oSet (p : grid0.Coords) (j : S16x128.Idx) : j ∈ oSet p ↔ (j 0).val = bT p ∧ hT p ≤ (j 1).val ∧ (j 1).val < hT p + 64 := by
  have hs : oSet p = (Rect.unit (s := S16x128) (k0_off4 p) S1x64.size (k0_off4_inb p)).set := by
    refine (View.set_reshape ((View.whole main_v4_scv).slice (Rect.unit (s := S16x128) (k0_off4 p) S1x64.size (k0_off4_inb p))) _).trans ?_
    exact View.set_slice_whole main_v4_scv _
  rw [hs, Rect.mem_set_unit]
  have e := off4_eq p
  constructor
  · intro h
    have h0 := h 0; have h1 := h 1
    rw [e] at h0 h1
    simp only [Matrix.cons_val_zero, Matrix.cons_val_one, S1x64, Shape.size] at h0 h1
    exact ⟨by omega, by omega, by omega⟩
  · rintro ⟨h0, h1, h2⟩ a
    rw [e]
    match a with
    | ⟨0, _⟩ => show bT p ≤ (j 0).val ∧ (j 0).val < bT p + 1; omega
    | ⟨1, _⟩ => show hT p ≤ (j 1).val ∧ (j 1).val < hT p + 64; omega

theorem bT_co (c : Fin 2) (i : Fin 16) : bT (co c i) = 8 * c.val + i.val / 2 := rfl
theorem hT_co (c : Fin 2) (i : Fin 16) : hT (co c i) = 64 * (i.val % 2) := rfl

/-- The elements of the result one SparseCore writes. -/
def oCore (c : Fin 2) : Finset S16x128.Idx := (Finset.univ : Finset (Fin 16)).biUnion fun i => oSet (co c i)

theorem mem_oCore (c : Fin 2) (j : S16x128.Idx) : j ∈ oCore c ↔ ∃ i : Fin 16, j ∈ oSet (co c i) := by
  unfold oCore; simp only [Finset.mem_biUnion, Finset.mem_univ, true_and]

theorem oSet_disjoint (c : Fin 2) : ∀ i ∈ (Finset.univ : Finset (Fin 16)), ∀ i' ∈ (Finset.univ : Finset (Fin 16)), i ≠ i' →
    Disjoint (oSet (co c i)) (oSet (co c i')) := fun i _ i' _ h => by
  refine Finset.disjoint_left.mpr fun j h1 h2 => h (Fin.ext ?_)
  rw [mem_oSet, bT_co, hT_co] at h1 h2
  omega

theorem oCore_disjoint : ∀ c ∈ (Finset.univ : Finset (Fin 2)), ∀ c' ∈ (Finset.univ : Finset (Fin 2)), c ≠ c' → Disjoint (oCore c) (oCore c') :=
  fun c _ c' _ h => by
  refine Finset.disjoint_left.mpr fun j h1 h2 => h (Fin.ext ?_)
  obtain ⟨i, h1⟩ := (mem_oCore c j).mp h1
  obtain ⟨i', h2⟩ := (mem_oCore c' j).mp h2
  rw [mem_oSet, bT_co, hT_co] at h1 h2
  omega

theorem oCore_cover : (Finset.univ : Finset (Fin 2)).biUnion oCore = Finset.univ := by
  refine Finset.eq_univ_iff_forall.mpr fun j => ?_
  rw [Finset.mem_biUnion]
  have hj0 : (j 0).val < 16 := (j 0).isLt
  have hj1 : (j 1).val < 128 := (j 1).isLt
  refine ⟨⟨(j 0).val / 8, by omega⟩, Finset.mem_univ _, (mem_oCore _ j).mpr ⟨⟨2 * ((j 0).val % 8) + (j 1).val / 64, by omega⟩, ?_⟩⟩
  rw [mem_oSet, bT_co, hT_co]
  show (j 0).val = 8 * ((j 0).val / 8) + (2 * ((j 0).val % 8) + (j 1).val / 64) / 2 ∧ 64 * ((2 * ((j 0).val % 8) + (j 1).val / 64) % 2) ≤ (j 1).val
    ∧ (j 1).val < 64 * ((2 * ((j 0).val % 8) + (j 1).val / 64) % 2) + 64
  omega

/-! ## What the handshakes carry -/

section Deal

variable [FloatOps F]
variable (X : (d : Dev nD) → Buf (Elt F) (xLoc d)) (Y : (d : Dev nD) → Buf (Elt F) (yLoc d)) (t : (d : Dev nD) → Buf (Elt F) (tLoc d))
  (o : (d : Dev nD) → Buf (Elt F) (oLoc d))

/-- A SparseCore's share of the inputs, -/
abbrev qC (c : Fin 2) : PosShare TreeShare := Transfers.shareTok fullShare 2 c
/-- and a subcore's of it. -/
abbrev qT (c : Fin 2) (i : Fin 16) : PosShare TreeShare := Transfers.shareTok (qC c) 16 i

/-- What goes to a SparseCore and comes back, the result's part at contents `f`; -/
def corePts (d : Dev nD) (f : Buf (Elt F) (oLoc d)) (c : Fin 2) : sProp 𝕄 :=
  iprop((xLoc d ↦{qC c} X d) ∗ (yLoc d ↦{qC c} Y d) ∗ (tLoc d ↦{qC c} t d) ∗ (oLoc d ↦[oCore c]{fullShare} f))
/-- what goes to a subcore and comes back. -/
def tilePts (d : Dev nD) (f : Buf (Elt F) (oLoc d)) (c : Fin 2) (i : Fin 16) : sProp 𝕄 :=
  iprop((xLoc d ↦{qT c i} X d) ∗ (yLoc d ↦{qT c i} Y d) ∗ (tLoc d ↦{qT c i} t d) ∗ (oLoc d ↦[oSet (co c i)]{fullShare} f))

/-- The result when the SparseCores are done. -/
abbrev oFin (d : Dev nD) : Buf (Elt F) (oLoc d) := scOut (X d) (Y d) (t d)

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => corePts X Y t d (o d) (Fin.cast nCore_zero c)
  dn := fun q d c => match q with | 0 => corePts X Y t d (oFin X Y t d) (Fin.cast nCore_zero c)
  go := fun q d c i => match q with | 0 => tilePts X Y t d (o d) (Fin.cast nCore_zero c) (Fin.cast nSub_zero i)
  td := fun q d c i => match q with | 0 => tilePts X Y t d (oFin X Y t d) (Fin.cast nCore_zero c) (Fin.cast nSub_zero i)
  x := fun _ _ => iprop(emp)

instance P_storable : (P (F := F) X Y t o).IsStorable where
  st q d _ := match q with
    | 0 => (inferInstance : BI.Storable (upEmb : UEmb _ 𝕄) iprop((xLoc d ↦{qC _} X d) ∗ (yLoc d ↦{qC _} Y d) ∗ (tLoc d ↦{qC _} t d) ∗ (oLoc d ↦[oCore _]{fullShare} o d)))
  dn q d _ := match q with
    | 0 => (inferInstance : BI.Storable (upEmb : UEmb _ 𝕄) iprop((xLoc d ↦{qC _} X d) ∗ (yLoc d ↦{qC _} Y d) ∗ (tLoc d ↦{qC _} t d) ∗ (oLoc d ↦[oCore _]{fullShare} oFin X Y t d)))
  go q d _ _ := match q with
    | 0 => (inferInstance : BI.Storable (upEmb : UEmb _ 𝕄) iprop((xLoc d ↦{qT _ _} X d) ∗ (yLoc d ↦{qT _ _} Y d) ∗ (tLoc d ↦{qT _ _} t d) ∗ (oLoc d ↦[oSet _]{fullShare} o d)))
  td q d _ _ := match q with
    | 0 => (inferInstance : BI.Storable (upEmb : UEmb _ 𝕄) iprop((xLoc d ↦{qT _ _} X d) ∗ (yLoc d ↦{qT _ _} Y d) ∗ (tLoc d ↦{qT _ _} t d) ∗ (oLoc d ↦[oSet _]{fullShare} oFin X Y t d)))

/-! ## A task's obligation -/

theorem defs₀_vector (c : Fin τ.nSC) (s : Fin τ.nSub) :
    defs₀ (F := F) (.scVector c s) 0 () = SparseCore.onTile hcore0 hsub0 (fun c s => cc0__sc_body (coordsV c s)
      xW (Memref.isWhole_whole _) yW (Memref.isWhole_whole _) tW (Memref.isWhole_whole _) oW (Memref.isWhole_whole _)
      s0W (Memref.isWhole_whole _) s1W (Memref.isWhole_whole _) s2W (Memref.isWhole_whole _) s3W (Memref.isWhole_whole _)
      cc0_scoped0 cc0_scoped1 cc0_scoped2 cc0_scoped3) ⟨⟩ c s := rfl

theorem obl_post {A B C : sProp 𝕄} {th : Thread nD τ} {q : Fin 1} {O : CellTallies nD τ sig (HIx 1)} {W : Waits sig (HIx 1)} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

theorem tileObl : (K (F := F)).TileObl (D (F := F)) 𝒱 (P X Y t o) v₀ 0 := by
  intro d c i O W hO _ _
  simp only [show (P (F := F) X Y t o).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((tile_body d (co (Fin.cast nCore_zero c) (Fin.cast nSub_zero i)) (qT (Fin.cast nCore_zero c) (Fin.cast nSub_zero i))
    (X d) (Y d) (t d) (o d) O W hO).trans (wp_mono frame _ _ fun _ => obl_post))
  show iprop(_ ∗ emp ∗ tilePts X Y t d (o d) (Fin.cast nCore_zero c) (Fin.cast nSub_zero i) ∗ _) ⊢ _
  unfold tilePts
  iintro ⟨HL, -, Hg, HR⟩
  isplitl [HL]; · iexact HL
  isplitl [Hg]; · iexact Hg
  iexact HR

/-! ## The dealing -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem oCore_pieces (d : Dev nD) (c : Fin 2) (f : Buf (Elt F) (oLoc d)) :
    (oLoc d ↦[oCore c]{fullShare} f : sProp 𝕄) = bigSep Finset.univ fun i : Fin 16 => oLoc d ↦[oSet (co c i)]{fullShare} f := by
  rw [← pointsTo_biUnion Finset.univ (ℓ := oLoc d) (fun i => oSet (co c i)) (oSet_disjoint c)]; rfl

theorem oWhole_pieces (d : Dev nD) (f : Buf (Elt F) (oLoc d)) :
    (oLoc d ↦{fullShare} f : sProp 𝕄) = bigSep Finset.univ fun c : Fin 2 => oLoc d ↦[oCore c]{fullShare} f := by
  rw [← pointsTo_biUnion Finset.univ (ℓ := oLoc d) oCore oCore_disjoint, oCore_cover]; try rfl

theorem tilePts_sep (d : Dev nD) (f : Buf (Elt F) (oLoc d)) (c : Fin 2) :
    (bigSep Finset.univ fun i : Fin 16 => (tilePts X Y t d f c i : sProp 𝕄))
      = iprop((bigSep Finset.univ fun i : Fin 16 => xLoc d ↦{qT c i} X d) ∗ (bigSep Finset.univ fun i : Fin 16 => yLoc d ↦{qT c i} Y d)
        ∗ (bigSep Finset.univ fun i : Fin 16 => tLoc d ↦{qT c i} t d) ∗ (oLoc d ↦[oCore c]{fullShare} f)) := by
  unfold tilePts; rw [bigSep_sep', bigSep_sep', bigSep_sep', oCore_pieces]

theorem vecSplit : (K (F := F)).VecSplit' (P X Y t o) 0 := by
  intro d c
  show corePts X Y t d (o d) (Fin.cast nCore_zero c) ⊢ |={Set.univ}=> iprop(
      (bigSep Finset.univ fun i : Fin ((K (F := F)).nSub 0) => tilePts X Y t d (o d) (Fin.cast nCore_zero c) (Fin.cast nSub_zero i))
      ∗ ((bigSep Finset.univ fun i : Fin ((K (F := F)).nSub 0) => tilePts X Y t d (oFin X Y t d) (Fin.cast nCore_zero c) (Fin.cast nSub_zero i))
          -∗ corePts X Y t d (oFin X Y t d) (Fin.cast nCore_zero c)))
  generalize Fin.cast nCore_zero c = c'
  rw [bigSep_tasks (fun i => tilePts X Y t d (o d) c' i), bigSep_tasks (fun i => tilePts X Y t d (oFin X Y t d) c' i),
    tilePts_sep, tilePts_sep]
  unfold corePts
  iintro ⟨Hx, Hy, Ht, Ho⟩
  ihave Hx' := (Transfers.pointsTo_toks_split (qC c') 16) $$ Hx
  ihave Hy' := (Transfers.pointsTo_toks_split (qC c') 16) $$ Hy
  ihave Ht' := (Transfers.pointsTo_toks_split (qC c') 16) $$ Ht
  icases Hx' with ⟨Hxr, Hxs⟩
  icases Hy' with ⟨Hyr, Hys⟩
  icases Ht' with ⟨Htr, Hts⟩
  imodintro
  isplitl [Hxs Hys Hts Ho]
  · isplitl [Hxs]; · iexact Hxs
    isplitl [Hys]; · iexact Hys
    isplitl [Hts]; · iexact Hts
    iexact Ho
  iintro ⟨Hxs, Hys, Hts, Ho⟩
  isplitl [Hxr Hxs]
  · iapply (Transfers.pointsTo_toks_join (qC c') 16); isplitl [Hxr] <;> iassumption
  isplitl [Hyr Hys]
  · iapply (Transfers.pointsTo_toks_join (qC c') 16); isplitl [Hyr] <;> iassumption
  isplitl [Htr Hts]
  · iapply (Transfers.pointsTo_toks_join (qC c') 16); isplitl [Htr] <;> iassumption
  iexact Ho

theorem cores_sep (d : Dev nD) (f : Buf (Elt F) (oLoc d)) :
    (bigSep Finset.univ fun c : Fin 2 => (corePts X Y t d f c : sProp 𝕄))
      = iprop((bigSep Finset.univ fun c : Fin 2 => xLoc d ↦{qC c} X d) ∗ (bigSep Finset.univ fun c : Fin 2 => yLoc d ↦{qC c} Y d)
        ∗ (bigSep Finset.univ fun c : Fin 2 => tLoc d ↦{qC c} t d) ∗ (oLoc d ↦{fullShare} f)) := by
  unfold corePts; rw [bigSep_sep', bigSep_sep', bigSep_sep', oWhole_pieces]

theorem st0_eq (d : Dev nD) : (bigSep Finset.univ fun c : Fin ((K (F := F)).nCore 0) => (P X Y t o).st 0 d c)
    = bigSep Finset.univ fun c : Fin 2 => (corePts X Y t d (o d) c : sProp 𝕄) := bigSep_congr fun _ _ => rfl
theorem dn0_eq (d : Dev nD) : (bigSep Finset.univ fun c : Fin ((K (F := F)).nCore 0) => (P X Y t o).dn 0 d c)
    = bigSep Finset.univ fun c : Fin 2 => (corePts X Y t d (oFin X Y t d) c : sProp 𝕄) := bigSep_congr fun _ _ => rfl

/-- What is kept of the inputs while the SparseCores read them. -/
def kept (d : Dev nD) : sProp 𝕄 :=
  iprop((xLoc d ↦{Transfers.shareDrop fullShare 2} X d) ∗ (yLoc d ↦{Transfers.shareDrop fullShare 2} Y d) ∗ (tLoc d ↦{Transfers.shareDrop fullShare 2} t d))

theorem deal (d : Dev nD) (f : Buf (Elt F) (oLoc d)) :
    (iprop((xLoc d ↦{fullShare} X d) ∗ (yLoc d ↦{fullShare} Y d) ∗ (tLoc d ↦{fullShare} t d) ∗ (oLoc d ↦{fullShare} f)) : sProp 𝕄)
      ⊢ iprop(kept X Y t d ∗ bigSep Finset.univ fun c : Fin 2 => corePts X Y t d f c) := by
  rw [cores_sep]; unfold kept
  iintro ⟨Hx, Hy, Ht, Ho⟩
  ihave Hx' := (Transfers.pointsTo_toks_split fullShare 2) $$ Hx
  ihave Hy' := (Transfers.pointsTo_toks_split fullShare 2) $$ Hy
  ihave Ht' := (Transfers.pointsTo_toks_split fullShare 2) $$ Ht
  icases Hx' with ⟨Hxr, Hxs⟩
  icases Hy' with ⟨Hyr, Hys⟩
  icases Ht' with ⟨Htr, Hts⟩
  isplitl [Hxr Hyr Htr]
  · isplitl [Hxr]; · iexact Hxr
    isplitl [Hyr]; · iexact Hyr
    iexact Htr
  isplitl [Hxs]; · iexact Hxs
  isplitl [Hys]; · iexact Hys
  isplitl [Hts]; · iexact Hts
  iexact Ho

theorem undeal (d : Dev nD) (f : Buf (Elt F) (oLoc d)) :
    iprop(kept X Y t d ∗ bigSep Finset.univ fun c : Fin 2 => corePts X Y t d f c)
      ⊢ (iprop((xLoc d ↦{fullShare} X d) ∗ (yLoc d ↦{fullShare} Y d) ∗ (tLoc d ↦{fullShare} t d) ∗ (oLoc d ↦{fullShare} f)) : sProp 𝕄) := by
  rw [cores_sep]; unfold kept
  iintro ⟨⟨Hxr, Hyr, Htr⟩, Hxs, Hys, Hts, Ho⟩
  isplitl [Hxr Hxs]
  · iapply (Transfers.pointsTo_toks_join fullShare 2); isplitl [Hxr] <;> iassumption
  isplitl [Hyr Hys]
  · iapply (Transfers.pointsTo_toks_join fullShare 2); isplitl [Hyr] <;> iassumption
  isplitl [Htr Hts]
  · iapply (Transfers.pointsTo_toks_join fullShare 2); isplitl [Htr] <;> iassumption
  iexact Ho

end Deal

end Cert.Proof

end
-- ==== Proof.PoolRun.lean ====
/-
  The TensorCore pooling kernel's body, run once at symbolic operands: what it leaves in the result's block, as a term over the
  three operand blocks.
-/
module

public import proofs.«01_k».proof.Proof.Gen.KernelIdeal
public import proofs.«01_k».proof.Proof.Gen.KernelIdeal.Skeleton
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Run

variable {Ix : Type} [DecidableEq Ix] {U : Type} [URA U]

local notation "𝕄" => MT nD τ sig Ix (Elt F) ℕ U ℕ

/-- A memref's buffer on core `c`: its contents type, and it held whole at `f`. -/
abbrev Bf (c : Dev nD) {sp : Space} {S : Shape} {e : EltTy} (M : Memref sig .tc sp S e) : Type := Buf (Elt F) (M.view.loc (c : Thread nD τ))

/-- What the pooling body leaves in its result's block, with the run that leaves it. -/
noncomputable def poolRun (c : Dev nD) (i : grid1.Coords)
    (M1 : Memref sig .tc .vmem S8x2048 .f32) (h1 : M1.IsWhole) (M2 : Memref sig .tc .vmem S8x2048 .f32) (h2 : M2.IsWhole)
    (M3 : Memref sig .tc .vmem S16x8x128 .f32) (h3 : M3.IsWhole) (M4 : Memref sig .tc .vmem S8x128 .f32) (h4 : M4.IsWhole)
    (f1 : Bf (F := F) c M1) (f2 : Bf (F := F) c M2) (f3 : Bf (F := F) c M3) :
    { W : Bf (F := F) c M4 //
      ∀ (f4 : Bf (F := F) c M4) (E : Set ℕ) (Q : PUnit → sProp 𝕄),
        iprop((M1.view.loc (c : Thread nD τ) ↦{fullShare} f1) ∗ (M2.view.loc (c : Thread nD τ) ↦{fullShare} f2)
          ∗ (M3.view.loc (c : Thread nD τ) ↦{fullShare} f3) ∗ (M4.view.loc (c : Thread nD τ) ↦{fullShare} f4)
          ∗ (iprop((M1.view.loc (c : Thread nD τ) ↦{fullShare} f1) ∗ (M2.view.loc (c : Thread nD τ) ↦{fullShare} f2)
          ∗ (M3.view.loc (c : Thread nD τ) ↦{fullShare} f3) ∗ (M4.view.loc (c : Thread nD τ) ↦{fullShare} W)) -∗ Q ⟨⟩))
        ⊢ wp frame (wpE (defs₀ (F := F)) Variants.none c none) E
            (cc1__tc_pool_body i M1 h1 M2 h2 M3 h3 M4 h4) Q } := by
  refine ⟨?_, fun f4 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

end Run

end Cert.Proof

end
-- ==== Proof.Calls.lean ====
/-
  The two calls of the TensorCore's pipeline, the pooling of the remaining points and the combination: per call the body's
  triple on its staging buffers, the proof data, the record of the region over the core's unscoped buffers at a valuation.
-/
module

public import proofs.«01_k».proof.Proof.Deal
public import proofs.«01_k».proof.Proof.PoolRun
public import proofs.«01_k».proof.Proof.Gen.KernelIdeal.Points
public import Idealize.ShloMosaic.Lib.Pipeline.RegionsLoop
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

/-- The combination's result's block, with the run that leaves it. -/
def combineRun (c : Dev nD)
    (M1 : Memref sig .tc .vmem S16x128 .f32) (h1 : M1.IsWhole) (M2 : Memref sig .tc .vmem S16x128 .f32) (h2 : M2.IsWhole)
    (M3 : Memref sig .tc .vmem S128x128 .f32) (h3 : M3.IsWhole) (M4 : Memref sig .tc .vmem S1x128 .f32) (h4 : M4.IsWhole)
    (M5 : Memref sig .tc .vmem S16x128 .f32) (h5 : M5.IsWhole)
    (f1 : Bf (F := F) c M1) (f2 : Bf (F := F) c M2) (f3 : Bf (F := F) c M3) (f4 : Bf (F := F) c M4) :
    { W : Bf (F := F) c M5 //
      ∀ (f5 : Bf (F := F) c M5) (E : Set ℕ) (Q : PUnit → sProp 𝕄),
        iprop((M1.view.loc (c : Thread nD τ) ↦{fullShare} f1) ∗ (M2.view.loc (c : Thread nD τ) ↦{fullShare} f2)
          ∗ (M3.view.loc (c : Thread nD τ) ↦{fullShare} f3) ∗ (M4.view.loc (c : Thread nD τ) ↦{fullShare} f4) ∗ (M5.view.loc (c : Thread nD τ) ↦{fullShare} f5)
          ∗ (iprop((M1.view.loc (c : Thread nD τ) ↦{fullShare} f1) ∗ (M2.view.loc (c : Thread nD τ) ↦{fullShare} f2)
          ∗ (M3.view.loc (c : Thread nD τ) ↦{fullShare} f3) ∗ (M4.view.loc (c : Thread nD τ) ↦{fullShare} f4) ∗ (M5.view.loc (c : Thread nD τ) ↦{fullShare} W)) -∗ Q ⟨⟩))
        ⊢ wp frame (wpE (defs₀ (F := F)) Variants.none c none) E (cc2__tc_combine_body M1 h1 M2 h2 M3 h3 M4 h4 M5 h5) Q } := by
  refine ⟨?_, fun f5 E Q => ?run⟩
  case run =>
    iintro ⟨H1, H2, H3, H4, H5, Hk⟩
    simp only [cc2__tc_combine_body_eq_skeleton]; unfold cc2__tc_combine_body_skel
    sl_exec!
    sl_step
    iapply Hk
    isplitl [H1]; · iexact H1
    isplitl [H2]; · iexact H2
    isplitl [H3]; · iexact H3
    isplitl [H4]; · iexact H4
    iexact H5

omit [FloatOps F] in
/-- A whole memref owned at what it reads is its buffer at the contents that read so. -/
theorem owns_unread (c : Dev nD) {sp : Space} {S : Shape} {e : EltTy} (M : Memref sig .tc sp S e) (h : M.IsWhole) (X : S.Idx → Elt F e) :
    (owns (c : Thread nD τ) M fullShare X : sProp 𝕄) ⊢ (M.view.loc (c : Thread nD τ) ↦{fullShare} h.unread X) := by
  unfold owns
  iintro ⟨%f, %hf, H⟩
  rw [h.set_eq_univ, h.eq_unread hf]
  iexact H

omit [FloatOps F] in
theorem owns_read (c : Dev nD) {sp : Space} {S : Shape} {e : EltTy} (M : Memref sig .tc sp S e) (h : M.IsWhole) (f : Bf (F := F) c M) :
    (M.view.loc (c : Thread nD τ) ↦{fullShare} f : sProp 𝕄) ⊢ owns (c : Thread nD τ) M fullShare (M.view.read (Elt F) f) := by
  unfold owns
  rw [h.set_eq_univ]
  iintro H
  iexists f
  isplitr; · ipureintro; rfl
  iexact H

/-- The pairs a core's waits may have recorded once its part of the first call is over. -/
abbrev seen (c : Dev nD) : Set (SemLoc sig × HIx 1) := {p | (K (F := F)).lev ((c : Thread nD τ), p.1) p.2 ≤ 8}

abbrev Val (F : FTy → Type) : Type := (c : Dev nD) → (b : Ref sig .tc) → Buf (Elt F) ((c : Thread nD τ).loc b)

abbrev adm : (p : Fin 2) → (pcfgs (F := F) p).Adm := fun p => (cfgs p).toPCfg_adm

/-! ## The pooling -/

namespace Pool

abbrev hst0 (t : Fin cfg1.N) : (st1_0 t).IsWhole := hstage1_0 ((cfg1.slots t 0).cast nbuf1_0)
abbrev hst1 (t : Fin cfg1.N) : (st1_1 t).IsWhole := hstage1_1 ((cfg1.slots t 1).cast nbuf1_1)
abbrev hst2 (t : Fin cfg1.N) : (st1_2 t).IsWhole := hstage1_2 ((cfg1.slots t 2).cast nbuf1_2)
abbrev hst3 (t : Fin cfg1.N) : (st1_3 t).IsWhole := hstage1_3 ((cfg1.slots t 3).cast nbuf1_3)

variable (V : Val F)

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's run at the blocks of point `t`. -/
abbrev run (c : Dev nD) (t : Fin cfg1.N) := poolRun (F := F) (Ix := HIx 1) (U := UU) c (grid1.coords t) (st1_0 t) (hst0 t) (st1_1 t) (hst1 t) (st1_2 t) (hst2 t) (st1_3 t) (hst3 t)
  ((hst0 t).unread (iblk V c 0 t)) ((hst1 t).unread (iblk V c 1 t)) ((hst2 t).unread (iblk V c 2 t))

/-- What it leaves in the result's staging buffer. -/
def outAt (c : Dev nD) (t : Fin cfg1.N) : (cfg1.win 3).block.Idx → Elt F (cfg1.win 3).elt := (st1_3 t).view.read (Elt F) (run V c t).1

abbrev Φc (c : Dev nD) : sProp 𝕄 := Pipeline.scopedRest (Ix := HIx 1) (Name := ℕ) (U := UU) (Lvl := ℕ) (Val := Elt F) spec1 c

def dat (c : Dev nD) : Pipeline.Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ _ := Φc c
  q _ := fullShare
  owed _ := 0
  recorded _ := seen (F := F) c

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]

theorem before_0 (c : Dev nD) (t : Fin cfg1.N) (d) : (dat V c).before 0 t d = iblk V c 0 t := by
  unfold Pipeline.Dat.before; rw [if_pos (fetch1_0 t)]; unfold Pipeline.Dat.fetched Pipeline.Dat.blockOf iblk; dsimp only [dat]; rfl
theorem before_1 (c : Dev nD) (t : Fin cfg1.N) (d) : (dat V c).before 1 t d = iblk V c 1 t := by
  unfold Pipeline.Dat.before; rw [if_pos (fetch1_1 t)]; unfold Pipeline.Dat.fetched Pipeline.Dat.blockOf iblk; dsimp only [dat]; rfl
theorem before_2 (c : Dev nD) (t : Fin cfg1.N) (d) : (dat V c).before 2 t d = iblk V c 2 t := by
  refine ((dat V c).before_in_eq_fetched 2 rfl (fun _ => rfl) (fun _ _ _ => rfl) (fun t => ?_) t d).trans ?_
  · rw [after_2]; unfold Pipeline.Dat.blockOf iblk; dsimp only [dat]
  · unfold Pipeline.Dat.fetched Pipeline.Dat.blockOf iblk; dsimp only [dat]; rfl

theorem defs_tc : (defs₀ (F := F)) .tc cfg1.body = fun a => cc1__tc_pool_body (grid1.coords a.1) (win1_0.stage (a.2 0)) (hstage1_0 ((a.2 0).cast nbuf1_0))
    (win1_1.stage (a.2 1)) (hstage1_1 ((a.2 1).cast nbuf1_1)) (win1_2.stage (a.2 2)) (hstage1_2 ((a.2 2).cast nbuf1_2))
    (win1_3.stage (a.2 3)) (hstage1_3 ((a.2 3).cast nbuf1_3)) := rfl
theorem prog_eq (t : Fin cfg1.N) : (defs₀ (F := F)) .tc cfg1.body (cfg1.bodyArgs t (cfg1.slots t)) = bodyAt1 t := (congrFun defs_tc _).trans rfl

theorem body_obligation (c : Dev nD) : Pipeline.BodyObligation (dat V c) (defs₀ (F := F)) 𝒱₀ none Set.univ := fun t => by
  rw [bigSep_W1, bigSep_W1]
  dsimp only
  simp only [before_0, before_1, before_2, after_0, after_1, after_2, after_3]
  rw [show (dat V c).Φ t.castSucc = Φc c from rfl, show (dat V c).Φ t.succ = Φc c from rfl,
    show (dat V c).owesAt none t.succ = (dat V c).owesAt none t.castSucc from rfl]
  iintro ⟨HΦ, HO, ⟨%d0, H0⟩, ⟨%d1, H1⟩, ⟨%d2, H2⟩, ⟨%d3, H3⟩⟩
  ihave H0' := (owns_unread c (st1_0 t) (hst0 t) (iblk V c 0 t)) $$ H0
  ihave H1' := (owns_unread c (st1_1 t) (hst1 t) (iblk V c 1 t)) $$ H1
  ihave H2' := (owns_unread c (st1_2 t) (hst2 t) (iblk V c 2 t)) $$ H2
  ihave H3' := (owns_unread c (st1_3 t) (hst3 t) _) $$ H3
  sl_rw [prog_eq t]
  iapply ((run V c t).2 _ Set.univ _)
  isplitl [H0']; · iexact H0'
  isplitl [H1']; · iexact H1'
  isplitl [H2']; · iexact H2'
  isplitl [H3']; · iexact H3'
  iintro ⟨H0, H1, H2, H3⟩
  isplitl [HΦ]; · iexact HΦ
  isplitl [HO]; · iexact HO
  isplitl [H0]
  · ihave H := (owns_read c (st1_0 t) (hst0 t) _) $$ H0
    rw [(hst0 t).read_unread]; iexact H
  isplitl [H1]
  · ihave H := (owns_read c (st1_1 t) (hst1 t) _) $$ H1
    rw [(hst1 t).read_unread]; iexact H
  isplitl [H2]
  · ihave H := (owns_read c (st1_2 t) (hst2 t) _) $$ H2
    rw [(hst2 t).read_unread]; iexact H
  iapply (owns_read c (st1_3 t) (hst3 t) _); iexact H3

/-- The result's array after the region. -/
def result (c : Dev nD) : Buf (Elt F) ((c : Thread nD τ).loc main_v7) := (dat V c).arrAt 3 cfg1.N

/-- The buffers after the region. -/
def next : Val F := fun c => Function.update (V c) main_v7 (result V c)

end Pool

/-! ## The combination -/

namespace Comb

abbrev hst0 (t : Fin cfg2.N) : (st2_0 t).IsWhole := hstage2_0 0
abbrev hst1 (t : Fin cfg2.N) : (st2_1 t).IsWhole := hstage2_1 0
abbrev hst2 (t : Fin cfg2.N) : (st2_2 t).IsWhole := hstage2_2 0
abbrev hst3 (t : Fin cfg2.N) : (st2_3 t).IsWhole := hstage2_3 0
abbrev hst4 (t : Fin cfg2.N) : (st2_4 t).IsWhole := hstage2_4 0

variable (V : Val F)

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev run (c : Dev nD) (t : Fin cfg2.N) := combineRun (F := F) c (st2_0 t) (hst0 t) (st2_1 t) (hst1 t) (st2_2 t) (hst2 t) (st2_3 t) (hst3 t) (st2_4 t) (hst4 t)
  ((hst0 t).unread (iblk V c 0 t)) ((hst1 t).unread (iblk V c 1 t)) ((hst2 t).unread (iblk V c 2 t)) ((hst3 t).unread (iblk V c 3 t))

def outAt (c : Dev nD) (t : Fin cfg2.N) : (cfg2.win 4).block.Idx → Elt F (cfg2.win 4).elt := (st2_4 t).view.read (Elt F) (run V c t).1

abbrev Φc (c : Dev nD) : sProp 𝕄 := Pipeline.scopedRest (Ix := HIx 1) (Name := ℕ) (U := UU) (Lvl := ℕ) (Val := Elt F) spec2 c

def dat (c : Dev nD) : Pipeline.Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ _ := Φc c
  q _ := fullShare
  owed _ := 0
  recorded _ := seen (F := F) c

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = outAt V c t := by dsimp only [dat]

theorem before_0 (c : Dev nD) (t : Fin cfg2.N) (d) : (dat V c).before 0 t d = iblk V c 0 t := by
  unfold Pipeline.Dat.before; rw [if_pos (fetch2_0 t)]; unfold Pipeline.Dat.fetched Pipeline.Dat.blockOf iblk; dsimp only [dat]; rfl
theorem before_1 (c : Dev nD) (t : Fin cfg2.N) (d) : (dat V c).before 1 t d = iblk V c 1 t := by
  unfold Pipeline.Dat.before; rw [if_pos (fetch2_1 t)]; unfold Pipeline.Dat.fetched Pipeline.Dat.blockOf iblk; dsimp only [dat]; rfl
theorem before_2 (c : Dev nD) (t : Fin cfg2.N) (d) : (dat V c).before 2 t d = iblk V c 2 t := by
  unfold Pipeline.Dat.before; rw [if_pos (fetch2_2 t)]; unfold Pipeline.Dat.fetched Pipeline.Dat.blockOf iblk; dsimp only [dat]; rfl
theorem before_3 (c : Dev nD) (t : Fin cfg2.N) (d) : (dat V c).before 3 t d = iblk V c 3 t := by
  unfold Pipeline.Dat.before; rw [if_pos (fetch2_3 t)]; unfold Pipeline.Dat.fetched Pipeline.Dat.blockOf iblk; dsimp only [dat]; rfl

theorem defs_tc : (defs₀ (F := F)) .tc cfg2.body = fun a => cc2__tc_combine_body (win2_0.stage (a.2 0)) (hstage2_0 0) (win2_1.stage (a.2 1)) (hstage2_1 0)
    (win2_2.stage (a.2 2)) (hstage2_2 0) (win2_3.stage (a.2 3)) (hstage2_3 0) (win2_4.stage (a.2 4)) (hstage2_4 0) := rfl
theorem prog_eq (t : Fin cfg2.N) : (defs₀ (F := F)) .tc cfg2.body (cfg2.bodyArgs t (cfg2.slots t)) = bodyAt2 t := (congrFun defs_tc _).trans rfl

theorem body_obligation (c : Dev nD) : Pipeline.BodyObligation (dat V c) (defs₀ (F := F)) 𝒱₀ none Set.univ := fun t => by
  rw [bigSep_W2, bigSep_W2]
  dsimp only
  simp only [before_0, before_1, before_2, before_3, after_0, after_1, after_2, after_3, after_4]
  rw [show (dat V c).Φ t.castSucc = Φc c from rfl, show (dat V c).Φ t.succ = Φc c from rfl,
    show (dat V c).owesAt none t.succ = (dat V c).owesAt none t.castSucc from rfl]
  iintro ⟨HΦ, HO, ⟨%d0, H0⟩, ⟨%d1, H1⟩, ⟨%d2, H2⟩, ⟨%d3, H3⟩, ⟨%d4, H4⟩⟩
  ihave H0' := (owns_unread c (st2_0 t) (hst0 t) (iblk V c 0 t)) $$ H0
  ihave H1' := (owns_unread c (st2_1 t) (hst1 t) (iblk V c 1 t)) $$ H1
  ihave H2' := (owns_unread c (st2_2 t) (hst2 t) (iblk V c 2 t)) $$ H2
  ihave H3' := (owns_unread c (st2_3 t) (hst3 t) (iblk V c 3 t)) $$ H3
  ihave H4' := (owns_unread c (st2_4 t) (hst4 t) _) $$ H4
  sl_rw [prog_eq t]
  iapply ((run V c t).2 _ Set.univ _)
  isplitl [H0']; · iexact H0'
  isplitl [H1']; · iexact H1'
  isplitl [H2']; · iexact H2'
  isplitl [H3']; · iexact H3'
  isplitl [H4']; · iexact H4'
  iintro ⟨H0, H1, H2, H3, H4⟩
  isplitl [HΦ]; · iexact HΦ
  isplitl [HO]; · iexact HO
  isplitl [H0]
  · ihave H := (owns_read c (st2_0 t) (hst0 t) _) $$ H0
    rw [(hst0 t).read_unread]; iexact H
  isplitl [H1]
  · ihave H := (owns_read c (st2_1 t) (hst1 t) _) $$ H1
    rw [(hst1 t).read_unread]; iexact H
  isplitl [H2]
  · ihave H := (owns_read c (st2_2 t) (hst2 t) _) $$ H2
    rw [(hst2 t).read_unread]; iexact H
  isplitl [H3]
  · ihave H := (owns_read c (st2_3 t) (hst3 t) _) $$ H3
    rw [(hst3 t).read_unread]; iexact H
  iapply (owns_read c (st2_4 t) (hst4 t) _); iexact H4

def result (c : Dev nD) : Buf (Elt F) ((c : Thread nD τ).loc main_v9) := (dat V c).arrAt 4 cfg2.N

def next : Val F := fun c => Function.update (V c) main_v9 (result V c)

end Comb

/-! ## The records of the two regions -/

section Records

variable (V1 V2 : Val F)

/-- The proof data of both, the pooling entered at `V1`, the combination at `V2`. -/
def pdats : (p : Fin 2) → (c : Dev nD) → Pipeline.Dat τ (Elt F) (HIx 1) ℕ UU ℕ (Pipeline.pin (pcfgs (F := F)) adm p) c
  | ⟨0, _⟩ => fun c => Pool.dat V1 c
  | ⟨1, _⟩ => fun c => Comb.dat V2 c

/-- The core's `owes`, nothing owed, what its waits have recorded bounded. -/
abbrev idle (c : Dev nD) : sProp 𝕄 :=
  iprop(∃ W, ⌜∀ p ∈ W, (K (F := F)).lev ((c : Thread nD τ), p.1) p.2 ≤ 8⌝ ∗ owes (c : Thread nD τ) (0 : CellTallies nD τ sig (HIx 1)) W)

omit [FloatOps F] in
theorem idle_of_bound {cfg : Pipeline.Cfg sig Λ₀} (c : Dev nD) :
    (Pipeline.owesWithin c (0 : CellTallies nD τ sig (HIx 1)) (seen (F := F) c ∪ cfg.waitPairs none) : sProp 𝕄) ⊢ idle (F := F) c := by
  unfold Pipeline.owesWithin
  iintro ⟨%W, %hW, HO⟩
  iexists W
  isplitr
  · ipureintro
    intro p hp
    rcases hW hp with h | h
    · exact h
    · obtain ⟨w, s, rfl⟩ := h
      exact Nat.zero_le _
  iexact HO

set_option backward.isDefEq.respectTransparency.types false in
def reg1 : Pipeline.RegionSeg (pcfgs (F := F)) adm (pdats V1 V2) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (Pool.body_obligation V1 c).loose
  hwaits := Pipeline.hwaits_of_owed_zero _ _ _ _ (K (F := F)).L (K (F := F)).lev 0 fun _ _ => rfl
  pre c := iprop(unscopedBufs c (V1 c) ∗ idle (F := F) c)
  post c := iprop(unscopedBufs c (Pool.next V1 c) ∗ idle (F := F) c)
  X _ := BI.emp
  Y _ := BI.emp
  Z c := Pipeline.unscopedRest (Ix := HIx 1) (Name := ℕ) (U := UU) (Lvl := ℕ) spec1 c (V1 c)
  hentry c := by
    rw [Pipeline.ownSems0_none]
    have hsplit := Pipeline.arrays_of_unscopedBufs (p := 0) (pcfgs (F := F)) adm (pdats V1 V2) launch1.win launch1.arr_whole c
      ((pdats V1 V2 0 c).share_full fun _ => rfl) (V1 c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p hp)
      iexact HO
    isplitr; · iempintro
    iexact Hrest
  hin c := by
    rw [show (pdats V1 V2 0 c).Φ 0 = Pool.Φc c from rfl]
    iintro ⟨-, -, Hr⟩; iexact Hr
  hout c := by
    rw [Pipeline.ownSems0_none, show (pdats V1 V2 0 c).Φ (Fin.last _) = Pool.Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V1 V2) ((pdats V1 V2 0 c).share_full fun _ => rfl) (V1 c) (Pool.next V1 c) ((pdats V1 V2 0 c).arrAt · cfg1.N)
      (fun w => by
        have hne (b : Ref sig .tc) (h : b ≠ main_v7) : Pool.next V1 c b = V1 c b := Function.update_of_ne h _ _
        match w with
        | ⟨0, _⟩ => exact ((pdats V1 V2 0 c).arrAt_in 0 rfl _).trans (hne main_v1 (by decide)).symm
        | ⟨1, _⟩ => exact ((pdats V1 V2 0 c).arrAt_in 1 rfl _).trans (hne main_v3 (by decide)).symm
        | ⟨2, _⟩ => exact ((pdats V1 V2 0 c).arrAt_in 2 rfl _).trans (hne main_v6 (by decide)).symm
        | ⟨3, _⟩ => exact (Function.update_self main_v7 (Pool.result V1 c) (V1 c)).symm)
      (fun b hb => Function.update_of_ne (fun h : b = main_v7 => hb (by rw [h]; exact Finset.mem_image.mpr ⟨3, Finset.mem_univ _, rfl⟩)) _ _)
    iintro ⟨Ha, HO, -, Hrest⟩
    imodintro
    isplitl [Ha Hrest]
    · iapply hjoin; isplitl [Ha] <;> iassumption
    iapply (idle_of_bound (F := F) c (cfg := cfg1)); iexact HO

set_option backward.isDefEq.respectTransparency.types false in
def reg2 : Pipeline.RegionSeg (pcfgs (F := F)) adm (pdats V1 V2) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (Comb.body_obligation V2 c).loose
  hwaits := Pipeline.hwaits_of_owed_zero _ _ _ _ (K (F := F)).L (K (F := F)).lev 1 fun _ _ => rfl
  pre c := iprop(unscopedBufs c (V2 c) ∗ idle (F := F) c)
  post c := iprop(unscopedBufs c (Comb.next V2 c) ∗ idle (F := F) c)
  X _ := BI.emp
  Y _ := BI.emp
  Z c := Pipeline.unscopedRest (Ix := HIx 1) (Name := ℕ) (U := UU) (Lvl := ℕ) spec2 c (V2 c)
  hentry c := by
    rw [Pipeline.ownSems0_none]
    have hsplit := Pipeline.arrays_of_unscopedBufs (p := 1) (pcfgs (F := F)) adm (pdats V1 V2) launch2.win launch2.arr_whole c
      ((pdats V1 V2 1 c).share_full fun _ => rfl) (V2 c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p hp)
      iexact HO
    isplitr; · iempintro
    iexact Hrest
  hin c := by
    rw [show (pdats V1 V2 1 c).Φ 0 = Comb.Φc c from rfl]
    iintro ⟨-, -, Hr⟩; iexact Hr
  hout c := by
    rw [Pipeline.ownSems0_none, show (pdats V1 V2 1 c).Φ (Fin.last _) = Comb.Φc c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V1 V2) ((pdats V1 V2 1 c).share_full fun _ => rfl) (V2 c) (Comb.next V2 c) ((pdats V1 V2 1 c).arrAt · cfg2.N)
      (fun w => by
        have hne (b : Ref sig .tc) (h : b ≠ main_v9) : Comb.next V2 c b = V2 c b := Function.update_of_ne h _ _
        match w with
        | ⟨0, _⟩ => exact ((pdats V1 V2 1 c).arrAt_in 0 rfl _).trans (hne main_v4 (by decide)).symm
        | ⟨1, _⟩ => exact ((pdats V1 V2 1 c).arrAt_in 1 rfl _).trans (hne main_v7 (by decide)).symm
        | ⟨2, _⟩ => exact ((pdats V1 V2 1 c).arrAt_in 2 rfl _).trans (hne main_arg2 (by decide)).symm
        | ⟨3, _⟩ => exact ((pdats V1 V2 1 c).arrAt_in 3 rfl _).trans (hne main_v8 (by decide)).symm
        | ⟨4, _⟩ => exact (Function.update_self main_v9 (Comb.result V2 c) (V2 c)).symm)
      (fun b hb => Function.update_of_ne (fun h : b = main_v9 => hb (by rw [h]; exact Finset.mem_image.mpr ⟨4, Finset.mem_univ _, rfl⟩)) _ _)
    iintro ⟨Ha, HO, -, Hrest⟩
    imodintro
    isplitl [Ha Hrest]
    · iapply hjoin; isplitl [Ha] <;> iassumption
    iapply (idle_of_bound (F := F) c (cfg := cfg2)); iexact HO

end Records

end Cert.Proof

end
-- ==== Proof.Run.lean ====
/-
  The whole program's run: @main on the TensorCore — the host operations, the SparseCore call, the two pipelined calls — from
  every unscoped buffer at its launch contents to every one at the contents the run computes, and the launch.
-/
module

public import proofs.«01_k».proof.Proof.Calls

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

open Idealize.ShloMosaic.StableHlo (held wp_hlo_within held_sub_split held_congr)

/-! ## The TensorCore's buffers at a valuation -/

/-- The TensorCore's unscoped buffers. -/
def hbm : Finset (DevRef τ sig) := (StableHlo.tcRefs τ sig).filter fun b => ¬ b.isScoped

abbrev ref (b : Ref sig .tc) : DevRef τ sig := Proc.devRef .tc b

theorem unscoped_held (d : Dev nD) (W : Valuation τ sig (Elt F)) :
    (unscopedBufs d (fun b => W b) : sProp 𝕄) = held (T d) hbm W := by
  unfold unscopedBufs StableHlo.held hbm StableHlo.tcRefs
  rw [Finset.filter_map, bigSep_map]
  rfl

theorem mem_hbm (b : Ref sig .tc) (h : b.isScoped = false) : ref b ∈ hbm :=
  Finset.mem_filter.mpr ⟨Finset.mem_map.mpr ⟨b, Finset.mem_univ _, rfl⟩, fun e => absurd (e.symm.trans h) (by decide)⟩

theorem pair_sub (a b : Ref sig .tc) (ha : a.isScoped = false) (hb : b.isScoped = false) : ({ref a, ref b} : Finset (DevRef τ sig)) ⊆ hbm := by
  intro x hx
  rcases Finset.mem_insert.mp hx with rfl | hx
  · exact mem_hbm a ha
  · rw [Finset.mem_singleton.mp hx]; exact mem_hbm b hb

/-- The four buffers of the SparseCore call. -/
abbrev four : Finset (DevRef τ sig) := {ref main_v1, ref main_v3, ref main_arg1, ref main_v4}

theorem four_sub : four ⊆ hbm := by
  intro x hx
  simp only [four, Finset.mem_insert, Finset.mem_singleton] at hx
  rcases hx with rfl | rfl | rfl | rfl <;> exact mem_hbm _ rfl

theorem ref_ne {a b : Ref sig .tc} (h : a ≠ b) : ref a ≠ ref b := fun e => h (Proc.devRef_injective _ e)

theorem held_four (d : Dev nD) (W : Valuation τ sig (Elt F)) :
    (held (T d) four W : sProp 𝕄) = iprop((xLoc d ↦{fullShare} W (ref main_v1)) ∗ (yLoc d ↦{fullShare} W (ref main_v3)) ∗ (tLoc d ↦{fullShare} W (ref main_arg1))
      ∗ (oLoc d ↦{fullShare} W (ref main_v4))) := by
  unfold held four
  rw [SparseCore.bigSep_insert' (by decide), SparseCore.bigSep_insert' (by decide), SparseCore.bigSep_insert' (by decide), bigSep_singleton]

section Vals

variable [FloatOps F]

/-! ## The host operations and the valuations between them -/

abbrev opA : HloOp τ sig (Elt F) := StableHlo.unary main_arg0 main_v0 ((extractStridedSlice S16x2048x1 ![0, 0, 0] · slices_S16x2048x2_S16x2048x1_0_0_0) : (⟨S16x2048x2, .f32⟩ : BufTy).Contents (Elt F) → (⟨S16x2048x1, .f32⟩ : BufTy).Contents (Elt F))
abbrev opB : HloOp τ sig (Elt F) := StableHlo.reshape main_v0 main_v1 (rfl : (.f32 : EltTy) = .f32) shapeCasts_S16x2048x1_S16x2048
abbrev opC : HloOp τ sig (Elt F) := StableHlo.unary main_arg0 main_v2 ((extractStridedSlice S16x2048x1 ![0, 0, 1] · slices_S16x2048x2_S16x2048x1_0_0_1) : (⟨S16x2048x2, .f32⟩ : BufTy).Contents (Elt F) → (⟨S16x2048x1, .f32⟩ : BufTy).Contents (Elt F))
abbrev opD : HloOp τ sig (Elt F) := StableHlo.reshape main_v2 main_v3 (rfl : (.f32 : EltTy) = .f32) shapeCasts_S16x2048x1_S16x2048
abbrev opE : HloOp τ sig (Elt F) := StableHlo.reshape main_arg1 main_v5 (rfl : (.f32 : EltTy) = .f32) shapeCasts_S128_S16x8x1
abbrev opF : HloOp τ sig (Elt F) := StableHlo.unary main_v5 main_v6 (broadcastInDim S16x8x128 ![0, 1, 2] bcast_S16x8x1_S16x8x128_0_1_2 : (⟨S16x8x1, .f32⟩ : BufTy).Contents (Elt F) → (⟨S16x8x128, .f32⟩ : BufTy).Contents (Elt F))
abbrev opG : HloOp τ sig (Elt F) := StableHlo.reshape main_arg3 main_v8 (rfl : (.f32 : EltTy) = .f32) shapeCasts_S128_S1x128

variable (m : (ℓ : Loc nD τ sig) → Buf (Elt F) ℓ) (ρ : Dev nD → PrngReg)

abbrev W0 (d : Dev nD) : Valuation τ sig (Elt F) := fun b => m ⟨d, b⟩
def W1 (d : Dev nD) : Valuation τ sig (Elt F) := opD.result (opC.result (opB.result (opA.result (W0 m d))))
abbrev Xm (d : Dev nD) : Buf (Elt F) (xLoc d) := W1 m d (ref main_v1)
abbrev Ym (d : Dev nD) : Buf (Elt F) (yLoc d) := W1 m d (ref main_v3)
abbrev tm (d : Dev nD) : Buf (Elt F) (tLoc d) := W1 m d (ref main_arg1)
abbrev om (d : Dev nD) : Buf (Elt F) (oLoc d) := W1 m d (ref main_v4)
def W2 (d : Dev nD) : Valuation τ sig (Elt F) := Function.update (W1 m d) (ref main_v4) (oFin (Xm m) (Ym m) (tm m) d)
def W3 (d : Dev nD) : Valuation τ sig (Elt F) := opF.result (opE.result (W2 m d))
abbrev V3 : Val F := fun c b => W3 m c (ref b)
def W4 (d : Dev nD) : Valuation τ sig (Elt F) := Function.update (W3 m d) (ref main_v7) (Pool.result (V3 m) d)
def W5 (d : Dev nD) : Valuation τ sig (Elt F) := opG.result (W4 m d)
abbrev V5 : Val F := fun c b => W5 m c (ref b)
def W6 (d : Dev nD) : Valuation τ sig (Elt F) := Function.update (W5 m d) (ref main_v9) (Comb.result (V5 m) d)

theorem update_ref (W : Valuation τ sig (Elt F)) (r : Ref sig .tc) (f : (ref r).ty.Contents (Elt F)) :
    (fun b : Ref sig .tc => Function.update W (ref r) f (ref b)) = Function.update (fun b : Ref sig .tc => W (ref b)) r f := by
  funext b
  by_cases h : b = r
  · subst h; rw [Function.update_self, Function.update_self]
  · rw [Function.update_of_ne (ref_ne h), Function.update_of_ne h]

theorem next1_held (d : Dev nD) : (unscopedBufs d (Pool.next (V3 m) d) : sProp 𝕄) = held (T d) hbm (W4 m d) := by
  rw [← unscoped_held]; unfold W4; rw [update_ref]; rfl
theorem next2_held (d : Dev nD) : (unscopedBufs d (Comb.next (V5 m) d) : sProp 𝕄) = held (T d) hbm (W6 m d) := by
  rw [← unscoped_held]; unfold W6; rw [update_ref]; rfl

theorem held_rest (d : Dev nD) : (held (T d) (hbm \ four) (W2 m d) : sProp 𝕄) = held (T d) (hbm \ four) (W1 m d) :=
  held_congr (T d) fun b hb => by
    unfold W2
    exact Function.update_of_ne (fun h => (Finset.mem_sdiff.mp hb).2 (by rw [h]; simp [four])) _ _

theorem out_four (d : Dev nD) : (held (T d) hbm (opD.result (opC.result (opB.result (opA.result (W0 m d))))) : sProp 𝕄)
    ⊢ iprop(((xLoc d ↦{fullShare} Xm m d) ∗ (yLoc d ↦{fullShare} Ym m d) ∗ (tLoc d ↦{fullShare} tm m d) ∗ (oLoc d ↦{fullShare} om m d))
      ∗ held (T d) (hbm \ four) (W1 m d)) := by
  show (held (T d) hbm (W1 m d) : sProp 𝕄) ⊢ _
  rw [held_sub_split (T d) four_sub (W1 m d), held_four]

theorem in_four (d : Dev nD) : iprop(((xLoc d ↦{fullShare} Xm m d) ∗ (yLoc d ↦{fullShare} Ym m d) ∗ (tLoc d ↦{fullShare} tm m d)
      ∗ (oLoc d ↦{fullShare} oFin (Xm m) (Ym m) (tm m) d)) ∗ held (T d) (hbm \ four) (W1 m d)) ⊢ (held (T d) hbm (W2 m d) : sProp 𝕄) := by
  rw [held_sub_split (T d) four_sub (W2 m d), held_four, held_rest]
  unfold W2
  rw [Function.update_of_ne (ref_ne (show main_v1 ≠ main_v4 by decide)), Function.update_of_ne (ref_ne (show main_v3 ≠ main_v4 by decide)),
    Function.update_of_ne (ref_ne (show main_arg1 ≠ main_v4 by decide)), Function.update_self]

abbrev Pm : (K (F := F)).Pay (nD := nD) (Val := Elt F) (Name := ℕ) (U := UU) := P (Xm m) (Ym m) (tm m) (om m)

/-! ## The pipelined calls -/

/-- The staging cells' ghost state of both. -/
def G (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

set_option backward.isDefEq.respectTransparency.types false in
theorem reg1_pre (d : Dev nD) : (reg1 (V3 m) (V5 m)).pre d = iprop(held (T d) hbm (W3 m d) ∗ idle (F := F) d) := by
  rw [← unscoped_held]; rfl
set_option backward.isDefEq.respectTransparency.types false in
theorem reg1_post (d : Dev nD) : (reg1 (V3 m) (V5 m)).post d = iprop(held (T d) hbm (W4 m d) ∗ idle (F := F) d) := by
  rw [← next1_held]; rfl

theorem run1 [∀ e, Nonempty (Elt F e)] (d : Dev nD) (Q : PUnit.{1} → sProp 𝕄) :
    iprop((iprop(boundary (T d) ∗ held (T d) hbm (W4 m d) ∗ idle (F := F) d) -∗ Q ⟨⟩) ∗ boundary (T d) ∗ (held (T d) hbm (W3 m d) ∗ idle (F := F) d)
        ∗ levAts (K (F := F)).L (K (F := F)).lev ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ (Prog.lift (.customCall (SparseCore.inner (Pipeline.entry 0)) ())) Q := by
  have hl := (K (F := F)).wp_liftProg (D (F := F)) 𝒱 (Name := ℕ) (U := UU) (SparseCore.T d) Set.univ none (.op (.customCall (Pipeline.entry 0) ()) .ret) Q
  refine BIBase.Entails.trans ?_ hl
  clear hl
  have h := Pipeline.RegionSeg.wp (pcfgs (F := F)) adm (pdats (V3 m) (V5 m)) none cellOf_inj EP (defs₀ (F := F)) 𝒱₀ (K (F := F)).L (K (F := F)).lev (p := 0) (reg1 (V3 m) (V5 m)) d none
    (fun _ hu => absurd hu (Option.not_mem_none _)) (.ret : PUnit → _) Q
  refine BIBase.Entails.trans ?_ h
  rw [reg1_pre, reg1_post, wp_ret]
  iintro ⟨Hk, H⟩
  isplitl [Hk]
  · iintro H; imodintro; iapply Hk; iexact H
  iexact H

set_option backward.isDefEq.respectTransparency.types false in
theorem reg2_pre (d : Dev nD) : (reg2 (V3 m) (V5 m)).pre d = iprop(held (T d) hbm (W5 m d) ∗ idle (F := F) d) := by
  rw [← unscoped_held]; rfl
set_option backward.isDefEq.respectTransparency.types false in
theorem reg2_post (d : Dev nD) : (reg2 (V3 m) (V5 m)).post d = iprop(held (T d) hbm (W6 m d) ∗ idle (F := F) d) := by
  rw [← next2_held]; rfl

theorem run2 [∀ e, Nonempty (Elt F e)] (d : Dev nD) (Q : PUnit.{1} → sProp 𝕄) :
    iprop((iprop(boundary (T d) ∗ held (T d) hbm (W6 m d) ∗ idle (F := F) d) -∗ Q ⟨⟩) ∗ boundary (T d) ∗ (held (T d) hbm (W5 m d) ∗ idle (F := F) d)
        ∗ levAts (K (F := F)).L (K (F := F)).lev ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ (Prog.lift (.customCall (SparseCore.inner (Pipeline.entry 1)) ())) Q := by
  have hl := (K (F := F)).wp_liftProg (D (F := F)) 𝒱 (Name := ℕ) (U := UU) (SparseCore.T d) Set.univ none (.op (.customCall (Pipeline.entry 1) ()) .ret) Q
  refine BIBase.Entails.trans ?_ hl
  clear hl
  have h := Pipeline.RegionSeg.wp (pcfgs (F := F)) adm (pdats (V3 m) (V5 m)) none cellOf_inj EP (defs₀ (F := F)) 𝒱₀ (K (F := F)).L (K (F := F)).lev (p := 1) (reg2 (V3 m) (V5 m)) d none
    (fun _ hu => absurd hu (Option.not_mem_none _)) (.ret : PUnit → _) Q
  refine BIBase.Entails.trans ?_ h
  rw [reg2_pre, reg2_post, wp_ret]
  iintro ⟨Hk, H⟩
  isplitl [Hk]
  · iintro H; imodintro; iapply Hk; iexact H
  iexact H

/-! ## @main on the TensorCore -/

/-- What @main leaves the claims: every unscoped buffer at the last valuation. -/
abbrev FIN (d : Dev nD) : sProp 𝕄 := held (T d) hbm (W6 m d)

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [show (unscopedBufs d (fun b => m ((SparseCore.T d).loc b)) : sProp 𝕄) = held (T d) hbm (W0 m d) from unscoped_held d (W0 m d)]
  simp only [main, wp_bind, wp_pure]
  iintro ⟨#Hctx, Hst, ⟨Hb, Hheld, Hts, -⟩, Hg1, Hg2⟩
  iapply (wp_hlo_within 𝒱 (SparseCore.T d) none Set.univ (op := opA) (S := hbm) (pair_sub main_arg0 main_v0 rfl rfl) (V := W0 m d)) $$ [Hb Hheld]
  · isplitl [Hb] <;> iassumption
  iintro ⟨Hb, Hheld⟩
  rw [wp_ret]; imodintro
  iapply (wp_hlo_within 𝒱 (SparseCore.T d) none Set.univ (op := opB) (S := hbm) (pair_sub main_v0 main_v1 rfl rfl) (V := opA.result (W0 m d))) $$ [Hb Hheld]
  · isplitl [Hb] <;> iassumption
  iintro ⟨Hb, Hheld⟩
  rw [wp_ret]; imodintro
  iapply (wp_hlo_within 𝒱 (SparseCore.T d) none Set.univ (op := opC) (S := hbm) (pair_sub main_arg0 main_v2 rfl rfl) (V := opB.result (opA.result (W0 m d)))) $$ [Hb Hheld]
  · isplitl [Hb] <;> iassumption
  iintro ⟨Hb, Hheld⟩
  rw [wp_ret]; imodintro
  iapply (wp_hlo_within 𝒱 (SparseCore.T d) none Set.univ (op := opD) (S := hbm) (pair_sub main_v2 main_v3 rfl rfl) (V := opC.result (opB.result (opA.result (W0 m d))))) $$ [Hb Hheld]
  · isplitl [Hb] <;> iassumption
  iintro ⟨Hb, Hheld⟩
  rw [wp_ret]; imodintro
  ihave Hh := (out_four m d) $$ Hheld
  icases Hh with ⟨H4, Hrest⟩
  ihave H := (deal (Xm m) (Ym m) (tm m) d (om m d)) $$ H4
  icases H with ⟨Hkept, Hpay⟩
  iapply ((K (F := F)).wp_run (D (F := F)) 𝒱 (EH := EH) (P := Pm m) κ d 0) $$ [Hst Hpay Hkept Hrest Hb Hts Hg1 Hg2]
  isplitr; · iexact Hctx
  isplitl [Hst]; · iexact Hst
  isplitl [Hpay]
  · rw [st0_eq]; iexact Hpay
  iintro ⟨Hst, Hdn⟩
  ihave Hdn := (Entails.of_eq (dn0_eq (Xm m) (Ym m) (tm m) (om m) d)) $$ Hdn
  ihave H4 := (undeal (Xm m) (Ym m) (tm m) d _) $$ [Hkept Hdn]
  · isplitl [Hkept] <;> iassumption
  ihave Hheld := (in_four m d) $$ [H4 Hrest]
  · isplitl [H4] <;> iassumption
  iapply (wp_hlo_within 𝒱 (SparseCore.T d) none Set.univ (op := opE) (S := hbm) (pair_sub main_arg1 main_v5 rfl rfl) (V := W2 m d)) $$ [Hb Hheld]
  · isplitl [Hb] <;> iassumption
  iintro ⟨Hb, Hheld⟩
  rw [wp_ret]; imodintro
  iapply (wp_hlo_within 𝒱 (SparseCore.T d) none Set.univ (op := opF) (S := hbm) (pair_sub main_v5 main_v6 rfl rfl) (V := opE.result (W2 m d))) $$ [Hb Hheld]
  · isplitl [Hb] <;> iassumption
  iintro ⟨Hb, Hheld⟩
  rw [wp_ret]; imodintro
  ihave #Hlev := (SparseCore.Cfg.ctx_levAts κ) $$ Hctx
  unfold SparseCore.Cfg.tcSt
  icases Hst with ⟨⟨%W, %hW, HO⟩, Htail⟩
  iapply (run1 m d) $$ [Hb Hheld HO Htail Hts Hg1 Hg2]
  isplitr [Hb Hheld HO Hg1]
  · iintro ⟨Hb, Hheld, Hidle⟩
    iapply (wp_hlo_within 𝒱 (SparseCore.T d) none Set.univ (op := opG) (S := hbm) (pair_sub main_arg3 main_v8 rfl rfl) (V := W4 m d)) $$ [Hb Hheld]
    · isplitl [Hb] <;> iassumption
    iintro ⟨Hb, Hheld⟩
    rw [wp_ret]; imodintro
    iapply (run2 m d) $$ [Hb Hheld Hidle Htail Hts Hg2]
    isplitr [Hb Hheld Hidle Hg2]
    · iintro ⟨Hb, Hheld, ⟨%W', %hW', HO⟩⟩
      imodintro
      isplitl [HO Htail]
      · isplitl [HO]
        · iexists W'; isplitr; · ipureintro; exact hW'
          rw [SparseCore.Cfg.Otc_end _ d (le_refl _)]; iexact HO
        iexact Htail
      isplitl [Hheld]; · iexact Hheld
      isplitl [Hb] <;> iassumption
    isplitl [Hb]; · iexact Hb
    isplitl [Hheld Hidle]
    · isplitl [Hheld]; · iexact Hheld
      iexact Hidle
    isplitr; · iexact Hlev
    iexact Hg2
  isplitl [Hb]; · iexact Hb
  isplitl [Hheld HO]
  · isplitl [Hheld]; · iexact Hheld
    iexists W; isplitr; · ipureintro; exact hW
    rw [← SparseCore.Cfg.Otc_end (K := K (F := F)) d (le_refl 1)]; iexact HO
  isplitr; · iexact Hlev
  iexact Hg1

end Vals

end Cert.Proof

end
-- ==== Proof.Frames.lean ====
/-
  The launch: the ghost state it starts from, the reading of the final memory, the program's run and the two frames.
-/
module

public import proofs.«01_k».proof.Proof.Run
public import proofs.«01_k».proof.Defs
public import proofs.«01_k».proof.Proof.Gen.Kernel

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

open Idealize.ShloMosaic.StableHlo (held)

variable [FloatOps F]

/-! ## What the launch starts from -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

variable (m : (ℓ : Loc nD τ sig) → Buf (Elt F) ℓ) (ρ : Dev nD → PrngReg)

theorem ghost_split (d : Dev nD) :
    iprop((bigSep Finset.univ fun p : Fin 2 => Pipeline.cellsGhost (Pipeline.pin (pcfgs (F := F)) adm) EP p d)
      ∗ (bigSep Finset.univ fun p : Fin 2 => (Pipeline.toksInit (Pipeline.pin (pcfgs (F := F)) adm) EP p d : sProp 𝕄))) ⊢ G (F := F) d := by
  rw [show (Finset.univ : Finset (Fin 2)) = {0, 1} by decide, SparseCore.bigSep_insert' (by decide), bigSep_singleton,
    SparseCore.bigSep_insert' (by decide), bigSep_singleton]
  unfold G
  iintro ⟨⟨Hc0, Hc1⟩, Ht0, Ht1⟩
  isplitl [Hc0 Ht0]
  · isplitl [Hc0] <;> iassumption
  isplitl [Hc1] <;> iassumption

theorem ghost_all : iprop((bigSep Finset.univ fun d : Dev nD => bigSep Finset.univ fun p : Fin 2 => Pipeline.cellsGhost (Pipeline.pin (pcfgs (F := F)) adm) EP p d)
      ∗ (bigSep Finset.univ fun d : Dev nD => bigSep Finset.univ fun p : Fin 2 => (Pipeline.toksInit (Pipeline.pin (pcfgs (F := F)) adm) EP p d : sProp 𝕄)))
    ⊢ bigSep Finset.univ fun d : Dev nD => G (F := F) d := by
  rw [← bigSep_sep']
  exact bigSep_mono fun d _ => ghost_split d

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave HR' := (own_pair_emb ER _ _) $$ HR
  icases HR' with ⟨HP, -⟩
  imod (show (BI.own ((Emb.trans (Emb.inl : Emb UP (UP × Counters)) ER) (initOf (Pipeline.cells (Pipeline.pin (pcfgs (F := F)) adm) cellOf_inj)
      (Pipeline.launchToks (Pipeline.pin (pcfgs (F := F)) adm) cellOf_inj))) : sProp 𝕄) ⊢ _ from
    Pipeline.fund_ghost (Pipeline.pin (pcfgs (F := F)) adm) EP cellOf_inj) $$ HP with ⟨Hc, Ht⟩
  imodintro
  isplitl [HH]; · iexact HH
  isplitl [Hc Ht]
  · iapply ghost_all; isplitl [Hc] <;> iassumption
  rw [show (bigSep Finset.univ fun thr : Thread nD τ => bigSep Finset.univ fun q : Fin 1 => (Pm m).x q thr) = (iprop(emp) : sProp 𝕄) from by
    show (bigSep Finset.univ fun _ : Thread nD τ => bigSep Finset.univ fun _ : Fin 1 => (BI.emp : sProp 𝕄)) = BI.emp
    rw [bigSep_congr fun _ _ => show (bigSep Finset.univ fun q : Fin 1 => (BI.emp : sProp 𝕄)) = BI.emp from bigSep_emp_const _, bigSep_emp_const]]
  iempintro

/-! ## What the final memory reads -/

def fq (d : Dev nD) (s' : Phys nD τ sig (Elt F)) : Prop := ∀ b ∈ hbm, s'.mem.mem ⟨d, b⟩ = W6 m d b

theorem hfin (d : Dev nD) (s' : Phys nD τ sig (Elt F)) : iprop(FIN m d ∗ SI s') ⊢ (⌜fq m d s'⌝ : sProp 𝕄) := by
  have h := pointsTo_read_all (Ix := HIx 1) (Name := ℕ) (U := UU) (Lvl := ℕ) hbm (fun b => (⟨d, b⟩ : Loc nD τ sig)) (fun b => W6 m d b) s'
  exact BIBase.Entails.trans h sep_elim_left

theorem keep (op : HloOp τ sig (Elt F)) {y b : Ref sig .tc} (h : op.writes = {ref y}) (hb : b ≠ y) (W : Valuation τ sig (Elt F)) :
    op.result W (ref b) = W (ref b) := op.result_of_not_mem W (by rw [h, Finset.mem_singleton]; exact ref_ne hb)

/-- No operation writes an argument. -/
theorem W6_arg (d : Dev nD) (b : Ref sig .tc) (h0 : b ≠ main_v0) (h1 : b ≠ main_v1) (h2 : b ≠ main_v2) (h3 : b ≠ main_v3) (h4 : b ≠ main_v4)
    (h5 : b ≠ main_v5) (h6 : b ≠ main_v6) (h7 : b ≠ main_v7) (h8 : b ≠ main_v8) (h9 : b ≠ main_v9) : W6 m d (ref b) = m ⟨d, ref b⟩ := by
  unfold W6 W5 W4 W3 W2 W1
  rw [Function.update_of_ne (ref_ne h9), keep opG rfl h8, Function.update_of_ne (ref_ne h7), keep opF rfl h6, keep opE rfl h5,
    Function.update_of_ne (ref_ne h4), keep opD rfl h3, keep opC rfl h2, keep opB rfl h1, keep opA rfl h0]

/-- The run's post: the arguments as they were, the result at what the last call leaves, every counter at zero. -/
def Post : PUnit × MemSt nD τ sig (Elt F) → Prop := fun r =>
  (∀ c : Dev nD, (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.mem ((c.tc : Thread nD τ).loc main_v9) = Comb.result (V5 m) c)
  ∧ r.2.sem = fun _ => 0

theorem post_of (s' : Phys nD τ sig (Elt F)) (h : ∀ d, fq m d s') (hz : s'.mem.sem = fun _ => 0) : Post m (⟨⟩, s'.mem) := by
  refine ⟨fun c => ⟨⟨?_, ?_, ?_, ?_⟩, ?_⟩, hz⟩
  · exact (h c (ref main_arg0) (mem_hbm _ rfl)).trans (W6_arg m c main_arg0 (by decide) (by decide) (by decide) (by decide) (by decide) (by decide) (by decide) (by decide) (by decide) (by decide))
  · exact (h c (ref main_arg1) (mem_hbm _ rfl)).trans (W6_arg m c main_arg1 (by decide) (by decide) (by decide) (by decide) (by decide) (by decide) (by decide) (by decide) (by decide) (by decide))
  · exact (h c (ref main_arg2) (mem_hbm _ rfl)).trans (W6_arg m c main_arg2 (by decide) (by decide) (by decide) (by decide) (by decide) (by decide) (by decide) (by decide) (by decide) (by decide))
  · exact (h c (ref main_arg3) (mem_hbm _ rfl)).trans (W6_arg m c main_arg3 (by decide) (by decide) (by decide) (by decide) (by decide) (by decide) (by decide) (by decide) (by decide) (by decide))
  · exact (h c (ref main_v9) (mem_hbm _ rfl)).trans (Function.update_self _ _ _)

theorem run_main [∀ e, Nonempty (Elt F e)] : θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (Xm m) (Ym m) (tm m) (om m))
    (fun q _ => match q with | 0 => SparseCore.Cfg.VecSplit.of_plain (vecSplit (Xm m) (Ym m) (tm m) (om m)))
    m ρ main (G (F := F)) (FIN m) (u₀ (F := F)) (sep_elim_left.trans (hu₀ m)) (hmain m ρ) (fq m) (hfin m) (Post m) (post_of m)

end Cert.Proof

namespace Cert.Proof

open Idealize.ShloMosaic Idealize.SL.Sem

/-- The idealized program's frame. -/
theorem frame_ideal : Cert.quiescent_KernelIdeal := fun m ρ _ =>
  (θ_run Cert.KernelIdeal.defs _ _).mono (fun _ h => ⟨fun c => (h.1 c).1, h.2⟩) (run_main (F := Ideal) m ρ)

/-- The two programs' kernel bodies are one text, label by label. -/
theorem defs₀_same : Cert.Kernel.defs₀ (F := Bits) = Cert.KernelIdeal.defs₀ (F := Bits) := by
  funext k ℓ a
  match k, ℓ, a with
  | .scVector c s, 0, _ => rfl
  | .tc, 1, (t, s) => rfl
  | .tc, 2, (t, s) => rfl
  | .tc, 0, _ => rfl
  | .scVector c s, 1, _ => rfl
  | .scVector c s, 2, _ => rfl
  | .scScalar c, 0, _ => rfl
  | .scScalar c, 1, _ => rfl
  | .scScalar c, 2, _ => rfl

theorem defs_same : Cert.Kernel.defs (F := Bits) = Cert.KernelIdeal.defs (F := Bits) :=
  congrArg (fun D => (Cert.KernelIdeal.sc (F := Bits)).defs (Pipeline.defs Cert.KernelIdeal.pcfgs D)) defs₀_same

/-- The program's own frame: the same text. -/
theorem frame_kernel : Cert.quiescent_Kernel := fun m ρ _ => by
  rw [defs_same]
  exact (θ_run Cert.KernelIdeal.defs _ _).mono (fun _ h => ⟨fun c => (h.1 c).1, h.2⟩) (run_main (F := Bits) m ρ)

end Cert.Proof

end
-- ==== Proof.Ref.lean ====
/-
  The reference's run: the straight line of its host operations, what it leaves in each buffer, and its frame.
-/
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Init
public import Idealize.ShloMosaic.Adequacy
public import Idealize.ShloMosaic.Lib.Quiescent

@[expose] public section

noncomputable section

namespace Cert.Proof.Ref

open Cert.ReferenceIdeal Cert.ReferenceIdeal.Gen
open Idealize.ShloMosaic Idealize.ShloMosaic.StableHlo Idealize.ShloMosaic.TcCoe
open Idealize.SL.Sem

variable {F : FTy → Type} [Facts] [FloatOps F]

/-- The reference's operations in order, its two relu calls unfolded. -/
abbrev ops : List (HloOp τ sig (Elt F)) :=
  [ unary main_arg0 main_v0 ((extractStridedSlice S16x2048x1 ![0, 0, 0] · slices_S16x2048x2_S16x2048x1_0_0_0)),
    reshape main_v0 main_v1 (rfl : (.f32 : EltTy) = .f32) shapeCasts_S16x2048x1_S16x2048,
    unary main_v1 main_v2 (broadcastInDim S16x2048x1 ![0, 1] bcast_S16x2048_S16x2048x1_0_1),
    unary main_arg0 main_v3 ((extractStridedSlice S16x2048x1 ![0, 0, 1] · slices_S16x2048x2_S16x2048x1_0_0_1)),
    reshape main_v3 main_v4 (rfl : (.f32 : EltTy) = .f32) shapeCasts_S16x2048x1_S16x2048,
    unary main_v4 main_v5 (broadcastInDim S16x2048x1 ![0, 1] bcast_S16x2048_S16x2048x1_0_1),
    unary main_arg1 main_v6 (broadcastInDim S1x1x128 ![2] bcast_S128_S1x1x128_2),
    unary main_v6 main_v7 (broadcastInDim S16x2048x128 ![0, 1, 2] bcast_S1x1x128_S16x2048x128_0_1_2),
    unary main_v2 main_v8 (broadcastInDim S16x2048x128 ![0, 1, 2] bcast_S16x2048x1_S16x2048x128_0_1_2),
    binary main_v7 main_v8 main_v9 (subf),
    unary main_arg1 main_v10 (broadcastInDim S1x1x128 ![2] bcast_S128_S1x1x128_2),
    unary main_v5 main_v11 (broadcastInDim S16x2048x128 ![0, 1, 2] bcast_S16x2048x1_S16x2048x128_0_1_2),
    unary main_v10 main_v12 (broadcastInDim S16x2048x128 ![0, 1, 2] bcast_S1x1x128_S16x2048x128_0_1_2),
    binary main_v11 main_v12 main_v13 (subf),
    binary main_v9 main_v13 main_v14 (minimumf),
    TRef.nullary (.of main_call0_cst) (constant S_ .f32 0x00000000#32),
    TRef.unary (.of main_call0_cst) (.of main_call0_v0) (broadcastInDim S16x2048x128 ![] bcast_S_S16x2048x128),
    TRef.binary (.of main_v14) (.of main_call0_v0) (.of main_v15) maximumf,
    nullary main_cst (constant S_ .f32 0x00000000#32),
    binary main_v15 main_cst main_v16 ((fun x v => Host.reduceAdd x v reducesTo_S16x2048x128_S16x128_d1 h_S_)),
    unary main_arg2 main_v17 ((transpose S128x128 [1, 0] · transposes_S128x128_S128x128_1_0)),
    binary main_v16 main_v17 main_v18 ((fun l r => Host.dotGeneral dot_S16x128_S128x128_S16x128_1_0_0_1_n_n none l r)),
    unary main_arg3 main_v19 (broadcastInDim S1x128 ![1] bcast_S128_S1x128_1),
    unary main_v19 main_v20 (broadcastInDim S16x128 ![0, 1] bcast_S1x128_S16x128_0_1),
    binary main_v18 main_v20 main_v21 (addf),
    TRef.nullary (.of main_call1_cst) (constant S_ .f32 0x00000000#32),
    TRef.unary (.of main_call1_cst) (.of main_call1_v0) (broadcastInDim S16x128 ![] bcast_S_S16x128),
    TRef.binary (.of main_v21) (.of main_call1_v0) (.of main_v22) maximumf ]

theorem main_eq (c : Dev nD) : main (F := F) c = seq ops := by
  simp only [main, fn_relu.body, fn_relu_0.body, seq, bind_assoc, pure_bind]
  rfl

theorem ops_sub : (ops : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., binary_bufs_sub .., unary_bufs_sub .., binary_bufs_sub .., unary_bufs_sub .., unary_bufs_sub .., binary_bufs_sub .., nullary_bufs_sub .., unary_bufs_sub .., binary_bufs_sub ..⟩

/-- From any memory with zero counters the reference ends with every buffer at the operations' fold over the launch. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq (by decide) (by decide) defs main (fun _ => ops) main_eq (fun _ => ops_sub) m ρ

theorem arg0_eq (V : Valuation τ sig (Elt F)) :
    after ops V (main_arg0 : DevRef τ sig) = V (main_arg0 : DevRef τ sig) := by
  after_reads_simp

theorem arg1_eq (V : Valuation τ sig (Elt F)) :
    after ops V (main_arg1 : DevRef τ sig) = V (main_arg1 : DevRef τ sig) := by
  after_reads_simp

theorem arg2_eq (V : Valuation τ sig (Elt F)) :
    after ops V (main_arg2 : DevRef τ sig) = V (main_arg2 : DevRef τ sig) := by
  after_reads_simp

theorem arg3_eq (V : Valuation τ sig (Elt F)) :
    after ops V (main_arg3 : DevRef τ sig) = V (main_arg3 : DevRef τ sig) := by
  after_reads_simp

/-- The reference's frame: it leaves its arguments as they were and every counter at zero. -/
theorem frame : Cert.quiescent_ReferenceIdeal := by
  intro m ρ _
  exact (θ_run defs _ _).mono
    (fun r h => ⟨fun c => ⟨(h c main_arg0).trans (arg0_eq _), (h c main_arg1).trans (arg1_eq _),
      (h c main_arg2).trans (arg2_eq _), (h c main_arg3).trans (arg3_eq _)⟩, sem_eq_zero_of_no_sems (by decide) r.2⟩)
    (run (F := Ideal) m ρ)

end Cert.Proof.Ref

end
-- ==== Proof.Spec.lean ====
/-
  The layer's mathematics over the extended reals: tents summed over a diagram's points, a linear map, a bias, no less than zero.
-/
module

public import Idealize.ShloMosaic.PureOps.Ideal
public import Idealize.ShloMosaic.Lib.Pipeline.ValueKit
public import Idealize.ShloMosaic.Lib.Pointwise

@[expose] public section

noncomputable section

namespace Cert.Proof

open Idealize.ShloMosaic

/-- The part of one sample point under one line of the diagram, over the extended reals. -/
def tent (t x y : EReal) : EReal := max (min (t - x) (y - t)) 0

/-- Batch row `b` at output `q`: the tents of all 2048 points summed at each sample position, through the layer. -/
def net (P : (⟨3, ![16, 2048, 2]⟩ : Shape).Idx → EReal) (t : (⟨1, ![128]⟩ : Shape).Idx → EReal) (W : (⟨2, ![128, 128]⟩ : Shape).Idx → EReal)
    (B : (⟨1, ![128]⟩ : Shape).Idx → EReal) (b : Fin 16) (q : Fin 128) : EReal :=
  max (∑ k : Fin 128, (∑ n : Fin 2048, tent (t (ix1 k)) (P (ix3 b n 0)) (P (ix3 b n 1))) * W (ix2 q k) + B (ix1 q)) 0

/-- A sum over 2048 points is one over the first 896 and one over 128 lanes of nine chunks. -/
theorem sum_points (f : Fin 2048 → EReal) :
    (∑ n : Fin 896, f ⟨n.val, by omega⟩) + ∑ l : Fin 128, ∑ k : Fin 9, f ⟨896 + 128 * k.val + l.val, by omega⟩ = ∑ n, f n := by
  rw [Finset.sum_comm, Fin.sum_univ_two_halves 896 1152 rfl f]
  congr 1
  exact Fin.sum_mul_add_congr (f := fun x : Fin 1152 => f ⟨896 + x.val, by omega⟩) fun s k hl =>
    congrArg f (Fin.ext (by show 896 + 128 * s.val + k.val = 896 + (s.val * 128 + k.val); omega))

end Cert.Proof

end
-- ==== Proof.PoolVal.lean ====
/-
  What the pooling body leaves in its result's block: eight rows, each the sixteen groups' sums of nine chunks of points.
-/
module

public import proofs.«01_k».proof.Proof.PoolRun
public import proofs.«01_k».proof.Proof.Common
public import proofs.«01_k».proof.Proof.Spec
public import Idealize.ShloMosaic.Lib.Pipeline.ValueKit
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA

namespace Pool

variable {F : FTy → Type} [FloatOps F]

/-- A chunk's 128 values under each of a group's eight sample positions. -/
def spread (x : Vec F S1x128 .f32) : FVec F S8x128 .f32 :=
  broadcastTo S8x128 (shapeCast S1x128 (shapeCast S1x128 (shapeCast S128 x shapeCasts_S1x128_S128) shapeCasts_S128_S1x128) shapeCasts_S1x128_S1x128)
    broadcasts_S1x128_S8x128

/-- A chunk's tents added to the running sums. -/
def chunk (t : FVec F S8x128 .f32) (x y : Vec F S1x128 .f32) (a : FVec F S8x128 .f32) : FVec F S8x128 .f32 :=
  addf a (maximumf (minimumf (subf t (spread x)) (subf (spread y) t)) (broadcast S8x128 (Scalar.ofBits .f32 0x00000000#32)))

/-- A group's eight sums over all lanes of its nine chunks. -/
def group (t : FVec F S8x128 .f32) (x0 x1 x2 x3 x4 x5 x6 x7 x8 y0 y1 y2 y3 y4 y5 y6 y7 y8 : Vec F S1x128 .f32) : FVec F S8 .f32 :=
  multiReduction .add [1] S8
    (chunk t x8 y8 (chunk t x7 y7 (chunk t x6 y6 (chunk t x5 y5 (chunk t x4 y4 (chunk t x3 y3 (chunk t x2 y2 (chunk t x1 y1 (chunk t x0 y0
      (broadcast S8x128 (Scalar.ofBits .f32 0x00000000#32))))))))))) 0x00000000#32 reduces_S8x128_S8 (.inl rfl) rfl

/-- A chunk of a row lies in the block. -/
theorem inb_line (r k : ℕ) (hr : r < 8) (hk : k < 9) : ∀ a, (![r, 896 + 128 * k] : Fin 2 → ℕ) a + S1x128.size a ≤ S8x2048.size a := by
  intro a; fin_cases a <;> simp [Shape.size] <;> omega
/-- A group of sample positions lies in the block. -/
theorem inb_samp (g : ℕ) (hg : g < 16) : ∀ a, (![g, 0, 0] : Fin 3 → ℕ) a + S1x8x128.size a ≤ S16x8x128.size a := by
  intro a; fin_cases a <;> simp [Shape.size] <;> omega

section Words

variable (c : Dev nD) (M1 M2 : Memref sig .tc .vmem S8x2048 .f32) (M3 : Memref sig .tc .vmem S16x8x128 .f32)
  (f1 : Bf (F := F) c M1) (f2 : Bf (F := F) c M2) (f3 : Bf (F := F) c M3)

/-- Chunk `k` of row `r`. -/
def line {c : Dev nD} (M : Memref sig .tc .vmem S8x2048 .f32) (f : Bf (F := F) c M) (r k : ℕ) (hr : r < 8) (hk : k < 9) : Vec F S1x128 .f32 :=
  View.readAt (Elt F) M.view (Rect.unit (s := S8x2048) ![r, 896 + 128 * k] S1x128.size (inb_line r k hr hk)).toLoadRect f

/-- The sample positions of group `g`, under every lane. -/
def samp {c : Dev nD} (M : Memref sig .tc .vmem S16x8x128 .f32) (f : Bf (F := F) c M) (g : ℕ) (hg : g < 16) : FVec F S8x128 .f32 :=
  k1_pay3 (View.readAt (Elt F) M.view (Rect.unit (s := S16x8x128) ![g, 0, 0] S1x8x128.size (inb_samp g hg)).toLoadRect f)

/-- Group `g`'s sums in row `r`. -/
def grp (r g : ℕ) (hr : r < 8) (hg : g < 16) : FVec F S8 .f32 :=
  group (samp M3 f3 g hg) (line M1 f1 r 0 hr (by decide)) (line M1 f1 r 1 hr (by decide)) (line M1 f1 r 2 hr (by decide)) (line M1 f1 r 3 hr (by decide))
    (line M1 f1 r 4 hr (by decide)) (line M1 f1 r 5 hr (by decide)) (line M1 f1 r 6 hr (by decide)) (line M1 f1 r 7 hr (by decide)) (line M1 f1 r 8 hr (by decide))
    (line M2 f2 r 0 hr (by decide)) (line M2 f2 r 1 hr (by decide)) (line M2 f2 r 2 hr (by decide)) (line M2 f2 r 3 hr (by decide))
    (line M2 f2 r 4 hr (by decide)) (line M2 f2 r 5 hr (by decide)) (line M2 f2 r 6 hr (by decide)) (line M2 f2 r 7 hr (by decide)) (line M2 f2 r 8 hr (by decide))

/-- Row `r` of the block: the sixteen groups one after another. -/
def row (r : ℕ) (hr : r < 8) : FVec F S1x128 .f32 :=
  shapeCast S1x128 (concatenate S128 0 [⟨S8, grp c M1 M2 M3 f1 f2 f3 r 0 hr (by decide)⟩, ⟨S8, grp c M1 M2 M3 f1 f2 f3 r 1 hr (by decide)⟩, ⟨S8, grp c M1 M2 M3 f1 f2 f3 r 2 hr (by decide)⟩, ⟨S8, grp c M1 M2 M3 f1 f2 f3 r 3 hr (by decide)⟩, ⟨S8, grp c M1 M2 M3 f1 f2 f3 r 4 hr (by decide)⟩, ⟨S8, grp c M1 M2 M3 f1 f2 f3 r 5 hr (by decide)⟩, ⟨S8, grp c M1 M2 M3 f1 f2 f3 r 6 hr (by decide)⟩, ⟨S8, grp c M1 M2 M3 f1 f2 f3 r 7 hr (by decide)⟩, ⟨S8, grp c M1 M2 M3 f1 f2 f3 r 8 hr (by decide)⟩, ⟨S8, grp c M1 M2 M3 f1 f2 f3 r 9 hr (by decide)⟩, ⟨S8, grp c M1 M2 M3 f1 f2 f3 r 10 hr (by decide)⟩, ⟨S8, grp c M1 M2 M3 f1 f2 f3 r 11 hr (by decide)⟩, ⟨S8, grp c M1 M2 M3 f1 f2 f3 r 12 hr (by decide)⟩, ⟨S8, grp c M1 M2 M3 f1 f2 f3 r 13 hr (by decide)⟩, ⟨S8, grp c M1 M2 M3 f1 f2 f3 r 14 hr (by decide)⟩, ⟨S8, grp c M1 M2 M3 f1 f2 f3 r 15 hr (by decide)⟩] concatenates_S8_S8_S8_S8_S8_S8_S8_S8_S8_S8_S8_S8_S8_S8_S8_S8_S128_d0) shapeCasts_S128_S1x128

/-- The run's eight stores, last first. -/
theorem stores_eq : poolRun.sl.H4_8 c M1 M2 M3 f1 f2 f3 =
    [⟨Rect.unit (s := S8x128) ![7, 0] S1x128.size inb_S8x128_S1x128_7_0, row c M1 M2 M3 f1 f2 f3 7 (by decide)⟩,
      ⟨Rect.unit (s := S8x128) ![6, 0] S1x128.size inb_S8x128_S1x128_6_0, row c M1 M2 M3 f1 f2 f3 6 (by decide)⟩,
      ⟨Rect.unit (s := S8x128) ![5, 0] S1x128.size inb_S8x128_S1x128_5_0, row c M1 M2 M3 f1 f2 f3 5 (by decide)⟩,
      ⟨Rect.unit (s := S8x128) ![4, 0] S1x128.size inb_S8x128_S1x128_4_0, row c M1 M2 M3 f1 f2 f3 4 (by decide)⟩,
      ⟨Rect.unit (s := S8x128) ![3, 0] S1x128.size inb_S8x128_S1x128_3_0, row c M1 M2 M3 f1 f2 f3 3 (by decide)⟩,
      ⟨Rect.unit (s := S8x128) ![2, 0] S1x128.size inb_S8x128_S1x128_2_0, row c M1 M2 M3 f1 f2 f3 2 (by decide)⟩,
      ⟨Rect.unit (s := S8x128) ![1, 0] S1x128.size inb_S8x128_S1x128_1_0, row c M1 M2 M3 f1 f2 f3 1 (by decide)⟩,
      ⟨Rect.unit (s := S8x128) ![0, 0] S1x128.size inb_S8x128_S1x128_0_0, row c M1 M2 M3 f1 f2 f3 0 (by decide)⟩] := rfl

end Words

/-! ## Read at an index -/

/-- A chunk's step at a sample position and a lane: one tent more. -/
theorem chunk_apply (t : FVec F S8x128 .f32) (x y : Vec F S1x128 .f32) (a : FVec F S8x128 .f32) (s : Fin 8) (l : Fin 128) :
    chunk t x y a (ix2 s l) = FloatOps.addf (a (ix2 s l)) (phi (t (ix2 s l)) (x (ix2 0 l)) (y (ix2 0 l))) := by
  pointwise [chunk, spread]
  rfl

/-- Lane `l` of chunk `k` is the row's point `896 + 128 k + l`. -/
theorem line_apply {c : Dev nD} (M : Memref sig .tc .vmem S8x2048 .f32) (f : Bf (F := F) c M) (r k : ℕ) (hr : r < 8) (hk : k < 9) (l : Fin 128) :
    line M f r k hr hk (ix2 0 l) = M.view.read (Elt F) f (ix2 ⟨r, hr⟩ ⟨896 + 128 * k + l.val, by omega⟩) := by
  unfold line
  rw [View.readAt_eq_ld]
  pointwise

/-- Group `g`'s sample positions are the block's slice `g`. -/
theorem samp_apply {c : Dev nD} (M : Memref sig .tc .vmem S16x8x128 .f32) (f : Bf (F := F) c M) (g : ℕ) (hg : g < 16) (s : Fin 8) (l : Fin 128) :
    samp M f g hg (ix2 s l) = M.view.read (Elt F) f (ix3 ⟨g, hg⟩ s l) := by
  unfold samp
  rw [View.readAt_eq_ld]
  pointwise [k1_pay3]

/-- A vector of 128 laid as one row. -/
theorem lay_apply (w : FVec F S128 .f32) (q : Fin 128) : shapeCast S1x128 w shapeCasts_S128_S1x128 (ix2 0 q) = w (ix1 q) := by
  pointwise

/-- Sixteen groups of eight one after another: entry `8 g + s` is entry `s` of group `g`. -/
theorem rows_apply (v0 v1 v2 v3 v4 v5 v6 v7 v8 v9 v10 v11 v12 v13 v14 v15 : FVec F S8 .f32) (g : Fin 16) (s : Fin 8) :
    concatenate S128 0 [⟨S8, v0⟩, ⟨S8, v1⟩, ⟨S8, v2⟩, ⟨S8, v3⟩, ⟨S8, v4⟩, ⟨S8, v5⟩, ⟨S8, v6⟩, ⟨S8, v7⟩, ⟨S8, v8⟩, ⟨S8, v9⟩, ⟨S8, v10⟩, ⟨S8, v11⟩, ⟨S8, v12⟩, ⟨S8, v13⟩, ⟨S8, v14⟩, ⟨S8, v15⟩]
      concatenates_S8_S8_S8_S8_S8_S8_S8_S8_S8_S8_S8_S8_S8_S8_S8_S8_S128_d0 (ix1 ⟨8 * g.val + s.val, by omega⟩)
      = (![v0, v1, v2, v3, v4, v5, v6, v7, v8, v9, v10, v11, v12, v13, v14, v15] g) (ix1 s) :=
  concatenate_ofFn_apply (t := S128) (s₁ := S8) 0 ![v0, v1, v2, v3, v4, v5, v6, v7, v8, v9, v10, v11, v12, v13, v14, v15]
    concatenates_S8_S8_S8_S8_S8_S8_S8_S8_S8_S8_S8_S8_S8_S8_S8_S8_S128_d0 rfl 8 rfl _ g
    (show (8 * g.val + s.val) / 8 = g.val by omega) (ix1 s) (show s.val = (8 * g.val + s.val) % 8 by omega)
    fun b hb => absurd (Subsingleton.elim (α := Fin 1) _ _) hb

/-- Over the extended reals a tent is the larger of zero and the smaller of two differences. -/
theorem phi_eq (t x y : Ideal .f32) : phi t x y = tent t x y := by
  unfold phi tent
  rw [show (FloatOps.ofBits .f32 0x00000000#32 : Ideal .f32) = (0 : EReal) from Ideal.ofBits_zero_f32]
  rfl

/-- Nine terms added one after another are their sum. -/
theorem sum9 (f : Fin 9 → EReal) : 0 + f 0 + f 1 + f 2 + f 3 + f 4 + f 5 + f 6 + f 7 + f 8 = ∑ k, f k := by
  simp only [Fin.sum_univ_succ, Fin.sum_univ_zero, zero_add, add_zero, add_assoc]
  rfl

/-- A group's sum at a sample position: all lanes and all nine chunks. -/
theorem group_apply (t : FVec Ideal S8x128 .f32) (x0 x1 x2 x3 x4 x5 x6 x7 x8 y0 y1 y2 y3 y4 y5 y6 y7 y8 : Vec Ideal S1x128 .f32) (s : Fin 8) :
    group t x0 x1 x2 x3 x4 x5 x6 x7 x8 y0 y1 y2 y3 y4 y5 y6 y7 y8 (ix1 s)
      = ∑ l : Fin 128, ∑ k : Fin 9, tent (t (ix2 s l)) (![x0, x1, x2, x3, x4, x5, x6, x7, x8] k (ix2 0 l)) (![y0, y1, y2, y3, y4, y5, y6, y7, y8] k (ix2 0 l)) := by
  unfold group
  pointwise
  refine Finset.sum_congr rfl fun l _ => ?_
  simp only [chunk_apply, phi_eq, Ideal.addf_def]
  rw [← sum9, show (broadcast S8x128 0 (ix2 s l) : EReal) = 0 from rfl]
  rfl

/-- The pooled block: row `r` at position `q` is the sum over the lanes of the nine chunks' tents. -/
def blockSum (X Y : S8x2048.Idx → EReal) (T : S16x8x128.Idx → EReal) (r : Fin 8) (q : Fin 128) : EReal :=
  ∑ l : Fin 128, ∑ k : Fin 9, tent (T (ix3 ⟨q.val / 8, by omega⟩ ⟨q.val % 8, by omega⟩ l))
    (X (ix2 r ⟨896 + 128 * k.val + l.val, by omega⟩)) (Y (ix2 r ⟨896 + 128 * k.val + l.val, by omega⟩))

section Block

variable (c : Dev nD) (M1 M2 : Memref sig .tc .vmem S8x2048 .f32) (M3 : Memref sig .tc .vmem S16x8x128 .f32)
  (f1 : Bf (F := Ideal) c M1) (f2 : Bf (F := Ideal) c M2) (f3 : Bf (F := Ideal) c M3)

/-- The nine chunks of a row, by their number. -/
theorem lines (M : Memref sig .tc .vmem S8x2048 .f32) (f : Bf (F := Ideal) c M) (r : ℕ) (hr : r < 8) (k : Fin 9) :
    ![line M f r 0 hr (by decide), line M f r 1 hr (by decide), line M f r 2 hr (by decide), line M f r 3 hr (by decide), line M f r 4 hr (by decide),
      line M f r 5 hr (by decide), line M f r 6 hr (by decide), line M f r 7 hr (by decide), line M f r 8 hr (by decide)] k = line M f r k.val hr k.isLt := by
  fin_cases k <;> rfl

/-- The sum of group `g` in row `r`, over the blocks read. -/
theorem grp_apply (r g : ℕ) (hr : r < 8) (hg : g < 16) (s : Fin 8) :
    grp c M1 M2 M3 f1 f2 f3 r g hr hg (ix1 s) = ∑ l : Fin 128, ∑ k : Fin 9, tent (M3.view.read (Elt Ideal) f3 (ix3 ⟨g, hg⟩ s l))
      (M1.view.read (Elt Ideal) f1 (ix2 ⟨r, hr⟩ ⟨896 + 128 * k.val + l.val, by omega⟩))
      (M2.view.read (Elt Ideal) f2 (ix2 ⟨r, hr⟩ ⟨896 + 128 * k.val + l.val, by omega⟩)) := by
  unfold grp
  rw [group_apply]
  refine Finset.sum_congr rfl fun l _ => Finset.sum_congr rfl fun k _ => ?_
  rw [lines, lines, line_apply, line_apply, samp_apply]

/-- Row `r` at position `q` is the pooled block there. -/
theorem row_apply (r : ℕ) (hr : r < 8) (q : Fin 128) :
    row c M1 M2 M3 f1 f2 f3 r hr (ix2 0 q)
      = blockSum (M1.view.read (Elt Ideal) f1) (M2.view.read (Elt Ideal) f2) (M3.view.read (Elt Ideal) f3) ⟨r, hr⟩ q := by
  obtain ⟨g, s, rfl⟩ : ∃ (g : Fin 16) (s : Fin 8), q = ⟨8 * g.val + s.val, by omega⟩ :=
    ⟨⟨q.val / 8, by omega⟩, ⟨q.val % 8, by omega⟩, Fin.ext (by show q.val = 8 * (q.val / 8) + q.val % 8; omega)⟩
  unfold row
  rw [lay_apply, rows_apply]
  have e : ∀ g : Fin 16, ![grp c M1 M2 M3 f1 f2 f3 r 0 hr (by decide), grp c M1 M2 M3 f1 f2 f3 r 1 hr (by decide), grp c M1 M2 M3 f1 f2 f3 r 2 hr (by decide), grp c M1 M2 M3 f1 f2 f3 r 3 hr (by decide), grp c M1 M2 M3 f1 f2 f3 r 4 hr (by decide), grp c M1 M2 M3 f1 f2 f3 r 5 hr (by decide), grp c M1 M2 M3 f1 f2 f3 r 6 hr (by decide), grp c M1 M2 M3 f1 f2 f3 r 7 hr (by decide), grp c M1 M2 M3 f1 f2 f3 r 8 hr (by decide), grp c M1 M2 M3 f1 f2 f3 r 9 hr (by decide), grp c M1 M2 M3 f1 f2 f3 r 10 hr (by decide), grp c M1 M2 M3 f1 f2 f3 r 11 hr (by decide), grp c M1 M2 M3 f1 f2 f3 r 12 hr (by decide), grp c M1 M2 M3 f1 f2 f3 r 13 hr (by decide), grp c M1 M2 M3 f1 f2 f3 r 14 hr (by decide), grp c M1 M2 M3 f1 f2 f3 r 15 hr (by decide)] g
      = grp c M1 M2 M3 f1 f2 f3 r g.val hr g.isLt := by
    intro g; fin_cases g <;> rfl
  rw [e, grp_apply]
  unfold blockSum
  have hg : (⟨(8 * g.val + s.val) / 8, by omega⟩ : Fin 16) = g := Fin.ext (by show (8 * g.val + s.val) / 8 = g.val; omega)
  have hs : (⟨(8 * g.val + s.val) % 8, by omega⟩ : Fin 8) = s := Fin.ext (by show (8 * g.val + s.val) % 8 = s.val; omega)
  simp only [hg, hs]

/-- The same where the store places it. -/
theorem row_at (r : ℕ) (hr : r < 8) (x : S1x128.Idx) (r' : Fin 8) (q : Fin 128) (h0 : r'.val = r + (x 0).val) (h0' : (x 0).val < 1)
    (h1 : q.val = (x 1).val) :
    row c M1 M2 M3 f1 f2 f3 r hr x
      = blockSum (M1.view.read (Elt Ideal) f1) (M2.view.read (Elt Ideal) f2) (M3.view.read (Elt Ideal) f3) r' q := by
  obtain rfl : x = ix2 0 q := by
    rw [eq_ix2 x]
    congr 1
    · exact Fin.ext (by show (x 0).val = 0; omega)
    · exact Fin.ext h1.symm
  rw [row_apply]
  congr 1
  exact Fin.ext (by show r = r'.val; simpa using h0.symm)

/-- The block the pooling body leaves, read at an index. -/
theorem block_apply (i : grid1.Coords) (h1 : M1.IsWhole) (h2 : M2.IsWhole) (h3 : M3.IsWhole) (M4 : Memref sig .tc .vmem S8x128 .f32) (h4 : M4.IsWhole)
    (r : Fin 8) (q : Fin 128) :
    M4.view.read (Elt Ideal) (poolRun (Ix := SparseCore.Cfg.HIx 1) (U := UU) c i M1 h1 M2 h2 M3 h3 M4 h4 f1 f2 f3).1 (ix2 r q)
      = blockSum (M1.view.read (Elt Ideal) f1) (M2.view.read (Elt Ideal) f2) (M3.view.read (Elt Ideal) f3) r q := by
  show M4.view.read (Elt Ideal) (M4.view.writes (Elt Ideal) M4.view.junk (poolRun.sl.H4_8 c M1 M2 M3 f1 f2 f3)) (ix2 r q) = _
  rw [View.read_writes_junk_eq_canon, stores_eq]
  canon_tiles x h
  all_goals exact row_at c M1 M2 M3 f1 f2 f3 _ _ x r q (by simpa using h0) x0_lt (by simpa using h1)

end Block

end Pool
end Cert.Proof
end
-- ==== Proof.CallsVal.lean ====
/-
  What the two TensorCore calls leave, over the extended reals and read at an index: the pooled tents of the points from 896 on,
  and the combination's layer.
-/
module

public import proofs.«01_k».proof.Proof.Calls
public import proofs.«01_k».proof.Proof.PoolVal
public import Idealize.ShloMosaic.Lib.Pipeline.ValueKit
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA

/-- The tents of points 896 to 2047, chunk by chunk under each lane. -/
def tailSum (X Y : S16x2048.Idx → EReal) (T : S16x8x128.Idx → EReal) (b : Fin 16) (q : Fin 128) : EReal :=
  ∑ l : Fin 128, ∑ k : Fin 9, tent (T (ix3 ⟨q.val / 8, by omega⟩ ⟨q.val % 8, by omega⟩ l))
    (X (ix2 b ⟨896 + 128 * k.val + l.val, by omega⟩)) (Y (ix2 b ⟨896 + 128 * k.val + l.val, by omega⟩))

namespace Pool

variable (V : Val Ideal)

/-- The blocks of each point. -/
theorem idx (t : Fin cfg1.N) : win1_0.index t = ![t.val, 0] ∧ win1_1.index t = ![t.val, 0] ∧ win1_2.index t = ![0, 0, 0] ∧ win1_3.index t = ![t.val, 0] :=
  (by decide +kernel : ∀ t : Fin cfg1.N, win1_0.index t = ![t.val, 0] ∧ win1_1.index t = ![t.val, 0] ∧ win1_2.index t = ![0, 0, 0] ∧ win1_3.index t = ![t.val, 0]) t

/-- What the call leaves in its result. -/
theorem result_eq (c : Dev nD) : result V c = fun i : S16x128.Idx => tailSum (V c main_v1) (V c main_v3) (V c main_v6) (i 0) (i 1) := by
  unfold result
  refine (dat V c).arrAt_eq_of_covers 3 _ (by decide +kernel) fun t hf y => ?_
  rw [after_3]
  obtain ⟨r, q, rfl⟩ : ∃ (r : Fin 8) (q : Fin 128), y = ix2 r q := ⟨y 0, y 1, eq_ix2 y⟩
  unfold outAt
  refine (block_apply c _ _ _ _ _ _ _ _ _ _ _ _ _ _).trans ?_
  simp only [Memref.IsWhole.read_unread]
  unfold blockSum tailSum
  refine Finset.sum_congr rfl fun l _ => Finset.sum_congr rfl fun k _ => ?_
  obtain ⟨e0, e1, e2, e3⟩ := idx t
  blk_point [iblk, e0, e1, e2, e3]

end Pool
/-- The combination at row `b` and column `q`: the summed pools through the layer, its bias added, no less than zero. -/
def layer (S T : S16x128.Idx → EReal) (W : S128x128.Idx → EReal) (B : S1x128.Idx → EReal) (b : Fin 16) (q : Fin 128) : EReal :=
  max (∑ k : Fin 128, (S (ix2 b k) + T (ix2 b k)) * W (ix2 q k) + B (ix2 0 q)) 0

namespace Comb

variable (V : Val Ideal)

/-- The body's value at an index. -/
theorem pay_apply (S T : Vec Ideal S16x128 .f32) (W : Vec Ideal S128x128 .f32) (B : Vec Ideal S1x128 .f32) (b : Fin 16) (q : Fin 128) :
    k2_pay1 S T W B (ix2 b q) = layer S T W B b q := by
  pointwise [k2_pay1, layer]

/-- The block it leaves, from its operands' blocks. -/
theorem block_apply (c : Dev nD) (M1 : Memref sig .tc .vmem S16x128 .f32) (h1 : M1.IsWhole) (M2 : Memref sig .tc .vmem S16x128 .f32) (h2 : M2.IsWhole)
    (M3 : Memref sig .tc .vmem S128x128 .f32) (h3 : M3.IsWhole) (M4 : Memref sig .tc .vmem S1x128 .f32) (h4 : M4.IsWhole)
    (M5 : Memref sig .tc .vmem S16x128 .f32) (h5 : M5.IsWhole)
    (x1 x2 : Vec Ideal S16x128 .f32) (x3 : Vec Ideal S128x128 .f32) (x4 : Vec Ideal S1x128 .f32) (b : Fin 16) (q : Fin 128) :
    M5.view.read (Elt Ideal) (combineRun c M1 h1 M2 h2 M3 h3 M4 h4 M5 h5 (h1.unread x1) (h2.unread x2) (h3.unread x3) (h4.unread x4)).1 (ix2 b q)
      = layer x1 x2 x3 x4 b q := by
  rw [← pay_apply]
  unfold combineRun
  frame_out

/-- The blocks of each point. -/
theorem idx (t : Fin cfg2.N) : win2_0.index t = ![0, 0] ∧ win2_1.index t = ![0, 0] ∧ win2_2.index t = ![0, 0] ∧ win2_3.index t = ![0, 0] ∧ win2_4.index t = ![0, 0] :=
  (by decide +kernel : ∀ t : Fin cfg2.N, win2_0.index t = ![0, 0] ∧ win2_1.index t = ![0, 0] ∧ win2_2.index t = ![0, 0] ∧ win2_3.index t = ![0, 0] ∧ win2_4.index t = ![0, 0]) t

/-- What the call leaves in its result. -/
theorem result_eq (c : Dev nD) : result V c = fun i : S16x128.Idx => layer (V c main_v4) (V c main_v7) (V c main_arg2) (V c main_v8) (i 0) (i 1) := by
  unfold result
  refine (dat V c).arrAt_eq_of_covers 4 _ (by decide +kernel) fun t hf y => ?_
  rw [after_4]
  obtain ⟨r, q, rfl⟩ : ∃ (r : Fin 16) (q : Fin 128), y = ix2 r q := ⟨y 0, y 1, eq_ix2 y⟩
  unfold outAt
  refine (block_apply c _ _ _ _ _ _ _ _ _ _ _ _ _ _ _ _).trans ?_
  obtain ⟨e0, e1, e2, e3, e4⟩ := idx t
  unfold layer
  blk_point [iblk, e0, e1, e2, e3, e4]

end Comb
end Cert.Proof
end
-- ==== Proof.Value.lean ====
/-
  The program's result over the extended reals, read at an index: the SparseCores' points and the TensorCore's together are all of
  the diagram's, and the combination puts their sums through the layer.
-/
module

public import proofs.«01_k».proof.Proof.Run
public import proofs.«01_k».proof.Proof.Frames
public import proofs.«01_k».proof.Proof.CallsVal
public import proofs.«01_k».proof.Proof.Spec
public import Idealize.ShloMosaic.Lib.StableHlo.ReadAt

@[expose] public section

set_option maxRecDepth 16384

noncomputable section

namespace Cert.Proof

open Cert.KernelIdeal Cert.KernelIdeal.Gen
open Idealize.ShloMosaic Idealize.ShloMosaic.StableHlo Idealize.ShloMosaic.TcCoe
open Idealize.SL.Sem

/-- The running sum over the extended reals. -/
theorem accAt_eq (x y : ℕ → Ideal .f32) (t : Ideal .f32) (n : ℕ) : accAt x y t n = ∑ k : Fin n, tent t (x k.val) (y k.val) := by
  induction n with
  | zero => exact Ideal.ofBits_zero_f32
  | succ n ih =>
    rw [accAt_succ, ih, Pool.phi_eq, Fin.sum_univ_castSucc]
    rfl

/-- What the SparseCores pool, read at an index. -/
theorem scOut_apply (X Y : S16x2048.Idx → Ideal .f32) (t : S128.Idx → Ideal .f32) (b : Fin 16) (q : Fin 128) :
    scOut X Y t (ix2 b q) = ∑ n : Fin 896, tent (t (ix1 q)) (X (ix2 b ⟨n.val, by omega⟩)) (Y (ix2 b ⟨n.val, by omega⟩)) := by
  have e : ∀ (Z : S16x2048.Idx → Ideal .f32) (n : Fin 896), rowAt Z b.val n.val = Z (ix2 b ⟨n.val, by omega⟩) := fun Z n => by
    unfold rowAt
    rw [dif_pos ⟨b.isLt, by omega⟩, ix2_eq_valueIdx]
  unfold scOut
  refine (accAt_eq _ _ _ _).trans (Finset.sum_congr rfl fun n _ => ?_)
  rw [ix1_eq_valueIdx]
  exact congrArg₂ _ (e X n) (e Y n)

variable (m : (ℓ : Loc nD τ sig) → Buf (Elt Ideal) ℓ)

/-- The births' array, read at an index. -/
theorem Xm_apply (d : Dev nD) (b : Fin 16) (n : Fin 2048) : (Xm m d : S16x2048.Idx → EReal) (ix2 b n) = (m ((d.tc : Thread nD τ).loc main_arg0) : S16x2048x2.Idx → EReal) (ix3 b n 0) := by
  show (after [opA, opB, opC, opD] (W0 m d) (main_v1 : DevRef τ sig) : S16x2048.Idx → EReal) (ix2 b n) = _
  after_reads_at
  all_goals rfl

/-- The deaths' array, read at an index. -/
theorem Ym_apply (d : Dev nD) (b : Fin 16) (n : Fin 2048) : (Ym m d : S16x2048.Idx → EReal) (ix2 b n) = (m ((d.tc : Thread nD τ).loc main_arg0) : S16x2048x2.Idx → EReal) (ix3 b n 1) := by
  show (after [opA, opB, opC, opD] (W0 m d) (main_v3 : DevRef τ sig) : S16x2048.Idx → EReal) (ix2 b n) = _
  after_reads_at
  all_goals rfl

/-- The sample positions are as at the launch. -/
theorem tm_eq (d : Dev nD) : tm m d = m ((d.tc : Thread nD τ).loc main_arg1) := by
  show W1 m d (ref main_arg1) = _
  unfold W1
  rw [keep opD rfl (by decide), keep opC rfl (by decide), keep opB rfl (by decide), keep opA rfl (by decide)]

/-- The SparseCore call changes its result alone. -/
theorem W2_of_ne (d : Dev nD) {b : Ref sig .tc} (h : b ≠ main_v4) : W2 m d (ref b) = W1 m d (ref b) := by
  unfold W2
  exact Function.update_of_ne (ref_ne h) _ _

/-- The births when the pooling call starts. -/
theorem V3_v1 (d : Dev nD) : V3 m d main_v1 = Xm m d := by
  show W3 m d (ref main_v1) = _
  unfold W3
  rw [keep opF rfl (by decide), keep opE rfl (by decide), W2_of_ne m d (by decide)]

/-- The deaths when the pooling call starts. -/
theorem V3_v3 (d : Dev nD) : V3 m d main_v3 = Ym m d := by
  show W3 m d (ref main_v3) = _
  unfold W3
  rw [keep opF rfl (by decide), keep opE rfl (by decide), W2_of_ne m d (by decide)]

/-- The sample positions under every lane when the pooling call starts. -/
theorem V3_v6 (d : Dev nD) (g : Fin 16) (s : Fin 8) (l : Fin 128) :
    (V3 m d main_v6 : S16x8x128.Idx → EReal) (ix3 g s l) = (m ((d.tc : Thread nD τ).loc main_arg1) : S128.Idx → EReal) (ix1 ⟨8 * g.val + s.val, by omega⟩) := by
  show (after [opE, opF] (W2 m d) (main_v6 : DevRef τ sig) : S16x8x128.Idx → EReal) (ix3 g s l) = _
  after_reads_at
  exact (congrFun ((W2_of_ne m d (by decide)).trans (tm_eq m d)) _).trans
    (congrArg (m ((d.tc : Thread nD τ).loc main_arg1) : S128.Idx → EReal) (congrArg ix1 (Fin.ext (by show g.val * 8 + s.val = 8 * g.val + s.val; omega))))

/-- The SparseCores' pool when the combination starts. -/
theorem V5_v4 (d : Dev nD) : V5 m d main_v4 = oFin (Xm m) (Ym m) (tm m) d := by
  show W5 m d (ref main_v4) = _
  unfold W5 W4 W3 W2
  rw [keep opG rfl (by decide), Function.update_of_ne (ref_ne (by decide)), keep opF rfl (by decide), keep opE rfl (by decide), Function.update_self]

/-- The pooling call's result when the combination starts. -/
theorem V5_v7 (d : Dev nD) : V5 m d main_v7 = Pool.result (V3 m) d := by
  show W5 m d (ref main_v7) = _
  unfold W5 W4
  rw [keep opG rfl (by decide), Function.update_self]

/-- The layer's weights when the combination starts. -/
theorem V5_arg2 (d : Dev nD) : V5 m d main_arg2 = m ((d.tc : Thread nD τ).loc main_arg2) := by
  show W5 m d (ref main_arg2) = _
  unfold W5 W4 W3 W2 W1
  rw [keep opG rfl (by decide), Function.update_of_ne (ref_ne (by decide)), keep opF rfl (by decide), keep opE rfl (by decide),
    Function.update_of_ne (ref_ne (by decide)), keep opD rfl (by decide), keep opC rfl (by decide), keep opB rfl (by decide), keep opA rfl (by decide)]

/-- The layer's bias when the combination starts. -/
theorem V5_v8 (d : Dev nD) (q : Fin 128) :
    (V5 m d main_v8 : S1x128.Idx → EReal) (ix2 0 q) = (m ((d.tc : Thread nD τ).loc main_arg3) : S128.Idx → EReal) (ix1 q) := by
  show (after [opG] (W4 m d) (main_v8 : DevRef τ sig) : S1x128.Idx → EReal) (ix2 0 q) = _
  after_reads_at
  refine congrFun (?_ : W4 m d (ref main_arg3) = _) _
  unfold W4 W3 W2 W1
  rw [Function.update_of_ne (ref_ne (by decide)), keep opF rfl (by decide), keep opE rfl (by decide),
    Function.update_of_ne (ref_ne (by decide)), keep opD rfl (by decide), keep opC rfl (by decide), keep opB rfl (by decide), keep opA rfl (by decide)]

/-- The pools of both, added, are the tents of all points. -/
theorem pools (d : Dev nD) (S T : S16x128.Idx → EReal) (hS : S = V5 m d main_v4) (hT : T = V5 m d main_v7) (b : Fin 16) (k : Fin 128) :
    S (ix2 b k) + T (ix2 b k)
      = ∑ n : Fin 2048, tent ((m ((d.tc : Thread nD τ).loc main_arg1) : S128.Idx → EReal) (ix1 k))
          ((m ((d.tc : Thread nD τ).loc main_arg0) : S16x2048x2.Idx → EReal) (ix3 b n 0))
          ((m ((d.tc : Thread nD τ).loc main_arg0) : S16x2048x2.Idx → EReal) (ix3 b n 1)) := by
  rw [← sum_points, hS, hT]
  congr 1
  · rw [V5_v4]
    refine (scOut_apply (Xm m d) (Ym m d) (tm m d) b k).trans (Finset.sum_congr rfl fun n _ => ?_)
    rw [tm_eq]
    exact congrArg₂ _ (Xm_apply m d b _) (Ym_apply m d b _)
  · rw [V5_v7, Pool.result_eq]
    show tailSum _ _ _ b k = _
    unfold tailSum
    refine Finset.sum_congr rfl fun l _ => Finset.sum_congr rfl fun n _ => ?_
    rw [V3_v1, V3_v3, V3_v6, Xm_apply, Ym_apply]
    have hk : (⟨8 * (k.val / 8) + k.val % 8, by omega⟩ : Fin 128) = k := Fin.ext (by show 8 * (k.val / 8) + k.val % 8 = k.val; omega)
    rw [hk]

/-- The program's result at an index is the layer's mathematics at its arguments. -/
theorem result_apply (d : Dev nD) (b : Fin 16) (q : Fin 128) :
    (Comb.result (V5 m) d : S16x128.Idx → EReal) (ix2 b q)
      = net (m ((d.tc : Thread nD τ).loc main_arg0)) (m ((d.tc : Thread nD τ).loc main_arg1)) (m ((d.tc : Thread nD τ).loc main_arg2))
          (m ((d.tc : Thread nD τ).loc main_arg3)) b q := by
  rw [Comb.result_eq]
  show layer _ _ _ _ b q = _
  unfold layer net
  rw [V5_v8, V5_arg2]
  exact congrArg₂ max (congrArg₂ (· + ·) (Finset.sum_congr rfl fun k _ => congrArg₂ (· * ·) (pools m d _ _ rfl rfl b k) rfl) rfl) rfl

/-- The result at any index. -/
theorem result_fun (d : Dev nD) :
    Comb.result (V5 m) d = fun i : S16x128.Idx => net (m ((d.tc : Thread nD τ).loc main_arg0)) (m ((d.tc : Thread nD τ).loc main_arg1))
      (m ((d.tc : Thread nD τ).loc main_arg2)) (m ((d.tc : Thread nD τ).loc main_arg3)) (i 0) (i 1) := by
  funext i
  obtain ⟨b, q, rfl⟩ : ∃ (b : Fin 16) (q : Fin 128), i = ix2 b q := ⟨i 0, i 1, eq_ix2 i⟩
  exact result_apply m d b q

end Cert.Proof

end
-- ==== Proof.RefVal.lean ====
/-
  The reference's result read at an index.
-/
module

public import proofs.«01_k».proof.Proof.Ref
public import proofs.«01_k».proof.Proof.Spec
public import Idealize.ShloMosaic.Lib.StableHlo.ReadAt

@[expose] public section

set_option maxRecDepth 16384

noncomputable section

namespace Cert.Proof.Ref

open Cert.ReferenceIdeal Cert.ReferenceIdeal.Gen
open Idealize.ShloMosaic Idealize.ShloMosaic.StableHlo Idealize.ShloMosaic.TcCoe
open Idealize.SL.Sem

variable [Facts]

/-- The reference's result at an index is the layer's mathematics at its arguments. -/
theorem out_apply (V : Valuation τ sig (Elt Ideal)) (b : Fin 16) (q : Fin 128) :
    (after ops V (main_v22 : DevRef τ sig) : S16x128.Idx → EReal) (ix2 b q)
      = net (V (main_arg0 : DevRef τ sig)) (V (main_arg1 : DevRef τ sig)) (V (main_arg2 : DevRef τ sig)) (V (main_arg3 : DevRef τ sig)) b q := by
  unfold net tent
  after_reads_at

/-- The result at any index. -/
theorem out_fun (V : Valuation τ sig (Elt Ideal)) :
    after ops V (main_v22 : DevRef τ sig) = fun i : S16x128.Idx => net (V (main_arg0 : DevRef τ sig)) (V (main_arg1 : DevRef τ sig))
      (V (main_arg2 : DevRef τ sig)) (V (main_arg3 : DevRef τ sig)) (i 0) (i 1) := by
  funext i
  obtain ⟨b, q, rfl⟩ : ∃ (b : Fin 16) (q : Fin 128), i = ix2 b q := ⟨i 0, i 1, eq_ix2 i⟩
  exact out_apply V b q

end Cert.Proof.Ref

end
-- ==== Proof.Algebraic.lean ====
/-
  The program and the reference end with one result: each is the layer's mathematics at the arguments, on which they agree.
-/
module

public import proofs.«01_k».proof.Defs
public import proofs.«01_k».proof.Proof.Value
public import proofs.«01_k».proof.Proof.RefVal

@[expose] public section

noncomputable section

namespace Cert.Proof

open Idealize.ShloMosaic Idealize.ShloMosaic.TcCoe
open Idealize.SL.Sem

/-- Equal arguments give equal results. -/
theorem net_congr {P P' : (⟨3, ![16, 2048, 2]⟩ : Shape).Idx → EReal} {t t' : (⟨1, ![128]⟩ : Shape).Idx → EReal}
    {W W' : (⟨2, ![128, 128]⟩ : Shape).Idx → EReal} {B B' : (⟨1, ![128]⟩ : Shape).Idx → EReal} (h0 : P = P') (h1 : t = t') (h2 : W = W') (h3 : B = B') :
    (fun i : (⟨2, ![16, 128]⟩ : Shape).Idx => net P t W B (i 0) (i 1)) = fun i => net P' t' W' B' (i 0) (i 1) := by
  rw [h0, h1, h2, h3]

/-- Over the extended reals the program and the reference, from equal arguments, end with equal results. -/
theorem algebraic [Cert.ReferenceIdeal.Facts] :
    letI := Cert.KernelIdeal.Gen.facts
    Cert.algebraic_KernelIdeal_ReferenceIdeal := by
  letI := Cert.KernelIdeal.Gen.facts
  intro m g m' g' _ hagree
  refine ⟨fun c => Comb.result (V5 m) c, ?_, ?_⟩
  · exact (θ_run _ _ _).mono (fun r h c => ⟨(h.1 c).2, (h.1 c).1⟩) (run_main (F := Ideal) m g)
  · refine (θ_run _ _ _).mono (fun r h c => ⟨?_, (h c _).trans (Ref.arg0_eq _), (h c _).trans (Ref.arg1_eq _), (h c _).trans (Ref.arg2_eq _), (h c _).trans (Ref.arg3_eq _)⟩)
      (Ref.run (F := Ideal) m' g')
    refine (h c _).trans ((Ref.out_fun _).trans ?_)
    obtain ⟨h0, h1, h2, h3⟩ := hagree c
    exact (net_congr h0 h1 h2 h3).trans (result_fun m c).symm

end Cert.Proof

end
-- ==== Proof.lean ====
/-
  The claim: the frames of the kernel's two readings and of the reference, the idealization of the same text, and
  the one result of program and reference over the extended reals.
-/
module

public import proofs.«01_k».proof.Defs
public import proofs.«01_k».proof.Proof.Frames
public import proofs.«01_k».proof.Proof.Ref
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, by
  letI := Cert.Kernel.Gen.facts; letI := Cert.KernelIdeal.Gen.facts; letI := Cert.ReferenceIdeal.Gen.facts
  exact ⟨frame_kernel, frame_ideal, Ref.frame, trivial, algebraic⟩⟩

end Cert.Proof

end
